-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 4096]⟩ ⟨2, ![4096, 4096]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 512]⟩ ⟨2, ![4096, 8192]⟩ 1 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 512]⟩ ⟨2, ![4096, 8192]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x4096 : Shape := ⟨2, ![256, 4096]⟩
abbrev S4096x512 : Shape := ⟨2, ![4096, 512]⟩
abbrev S16x256x4096 : Shape := ⟨3, ![16, 256, 4096]⟩
abbrev S7 : Shape := ⟨1, ![7]⟩
abbrev S_ : Shape := ⟨0, ![]⟩
abbrev S1x256x4096 : Shape := ⟨3, ![1, 256, 4096]⟩
abbrev S1 : Shape := ⟨1, ![1]⟩
abbrev S256x512 : Shape := ⟨2, ![256, 512]⟩
abbrev S1x128x4096 : Shape := ⟨3, ![1, 128, 4096]⟩
abbrev S128x4096 : Shape := ⟨2, ![128, 4096]⟩

abbrev nBuf : Space → Nat
  | .hbm => 3
  | .vmem => 4
  | .smem => 0
  | _ => 0

abbrev bufTy : (tb : Table) → Fin (tcTables nBuf tb) → BufTy
  | .hbm, ⟨0, _⟩ => ⟨S256x4096, .bf16⟩
  | .hbm, ⟨1, _⟩ => ⟨S4096x512, .bf16⟩
  | .hbm, ⟨2, _⟩ => ⟨S4096x512, .f32⟩
  | .local _ .vmem, ⟨0, _⟩ => ⟨S256x4096, .bf16⟩
  | .local _ .vmem, ⟨1, _⟩ => ⟨S4096x512, .bf16⟩
  | .local _ .vmem, ⟨2, _⟩ => ⟨S4096x512, .f32⟩
  | .local _ .vmem, ⟨3, _⟩ => ⟨S16x256x4096, .bf16⟩
  | _, _ => ⟨S256x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  (ofTc nBuf bufTy 1 45 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_29 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c2_i32_9 : BitVec 32 := 2#32
  let v25 : BitVec 1 := Scalar.cmpi .sge v20 c2_i32_9
  let c1_i32_10 : BitVec 32 := 1#32
  let c0_i32_11 : BitVec 32 := 0#32
  let v26 : BitVec 32 := Scalar.select v25 c1_i32_10 c0_i32_11
  let c0_i32_12 : BitVec 32 := 0#32
  let v28 : BitVec 1 := Scalar.cmpi .eq v26 c0_i32_12
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c7_i32 : BitVec 32 := 7#32
  let v29 : BitVec 32 := Scalar.subi c7_i32 v19
  let v30 : BitVec 32 := Scalar.select v28 v19 v29
  let c1_i32_13 : BitVec 32 := 1#32
  let v31 : BitVec 32 := Scalar.addi v30 c1_i32_13
  let c16_i32_14 : BitVec 32 := 16#32
  let v32 : BitVec 32 := Scalar.addi v31 c16_i32_14
  let c8_i32 : BitVec 32 := 8#32
  let v33 : BitVec 32 := Scalar.remsi v32 c8_i32
  let c4_i32_15 : BitVec 32 := 4#32
  let v34 : BitVec 1 := Scalar.cmpi .slt v33 c4_i32_15
  let c4_i32_16 : BitVec 32 := 4#32
  let v35 : BitVec 32 := Scalar.muli c4_i32_16 v33
  let c1_i32_6 : BitVec 32 := 1#32
  let v21 : BitVec 1 := Scalar.cmpi .eq v20 c1_i32_6
  let c2_i32 : BitVec 32 := 2#32
  let v22 : BitVec 1 := Scalar.cmpi .eq v20 c2_i32
  let v23 : BitVec 1 := Scalar.ori v21 v22
  let c1_i32_7 : BitVec 32 := 1#32
  let c0_i32_8 : BitVec 32 := 0#32
  let v24 : BitVec 32 := Scalar.select v23 c1_i32_7 c0_i32_8
  let v36 : BitVec 32 := Scalar.addi v35 v24
  let c4_i32_18 : BitVec 32 := 4#32
  let c7_i32_17 : BitVec 32 := 7#32
  let v37 : BitVec 32 := Scalar.subi c7_i32_17 v33
  let v38 : BitVec 32 := Scalar.muli c4_i32_18 v37
  let c3_i32 : BitVec 32 := 3#32
  let v27 : BitVec 32 := Scalar.subi c3_i32 v24
  let v39 : BitVec 32 := Scalar.addi v38 v27
  let v40 : BitVec 32 := Scalar.select v34 v36 v39
  let c1_i32_28 : BitVec 32 := 1#32
  let v53 : BitVec 32 := Scalar.muli v40 c1_i32_28
  let v54 : BitVec 32 := Scalar.addi c0_i32_29 v53
  v54.toNat
def k0_dev2 (d0 : Dev nD) : Nat :=
  let c0_i32_32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c2_i32_9 : BitVec 32 := 2#32
  let v25 : BitVec 1 := Scalar.cmpi .sge v20 c2_i32_9
  let c1_i32_10 : BitVec 32 := 1#32
  let c0_i32_11 : BitVec 32 := 0#32
  let v26 : BitVec 32 := Scalar.select v25 c1_i32_10 c0_i32_11
  let c0_i32_12 : BitVec 32 := 0#32
  let v28 : BitVec 1 := Scalar.cmpi .eq v26 c0_i32_12
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c7_i32 : BitVec 32 := 7#32
  let v29 : BitVec 32 := Scalar.subi c7_i32 v19
  let v30 : BitVec 32 := Scalar.select v28 v19 v29
  let c1_i32_19 : BitVec 32 := 1#32
  let v41 : BitVec 32 := Scalar.subi v30 c1_i32_19
  let c16_i32_20 : BitVec 32 := 16#32
  let v42 : BitVec 32 := Scalar.addi v41 c16_i32_20
  let c8_i32_21 : BitVec 32 := 8#32
  let v43 : BitVec 32 := Scalar.remsi v42 c8_i32_21
  let c4_i32_22 : BitVec 32 := 4#32
  let v44 : BitVec 1 := Scalar.cmpi .slt v43 c4_i32_22
  let c4_i32_23 : BitVec 32 := 4#32
  let v45 : BitVec 32 := Scalar.muli c4_i32_23 v43
  let c1_i32_6 : BitVec 32 := 1#32
  let v21 : BitVec 1 := Scalar.cmpi .eq v20 c1_i32_6
  let c2_i32 : BitVec 32 := 2#32
  let v22 : BitVec 1 := Scalar.cmpi .eq v20 c2_i32
  let v23 : BitVec 1 := Scalar.ori v21 v22
  let c1_i32_7 : BitVec 32 := 1#32
  let c0_i32_8 : BitVec 32 := 0#32
  let v24 : BitVec 32 := Scalar.select v23 c1_i32_7 c0_i32_8
  let v46 : BitVec 32 := Scalar.addi v45 v24
  let c4_i32_25 : BitVec 32 := 4#32
  let c7_i32_24 : BitVec 32 := 7#32
  let v47 : BitVec 32 := Scalar.subi c7_i32_24 v43
  let v48 : BitVec 32 := Scalar.muli c4_i32_25 v47
  let c3_i32 : BitVec 32 := 3#32
  let v27 : BitVec 32 := Scalar.subi c3_i32 v24
  let v49 : BitVec 32 := Scalar.addi v48 v27
  let v50 : BitVec 32 := Scalar.select v44 v46 v49
  let c1_i32_31 : BitVec 32 := 1#32
  let v55 : BitVec 32 := Scalar.muli v50 c1_i32_31
  let v56 : BitVec 32 := Scalar.addi c0_i32_32 v55
  v56.toNat
def k0_dev3 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_26 : BitVec 32 := 1#32
  let v51 : BitVec 32 := Scalar.xori v2 c1_i32_26
  let c1_i32_34 : BitVec 32 := 1#32
  let v57 : BitVec 32 := Scalar.muli v51 c1_i32_34
  let v58 : BitVec 32 := Scalar.addi c0_i32_35 v57
  v58.toNat
def k0_dev4 (d0 : Dev nD) : Nat :=
  let c0_i32_46 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_26 : BitVec 32 := 1#32
  let v51 : BitVec 32 := Scalar.xori v2 c1_i32_26
  let c1_i32_45 : BitVec 32 := 1#32
  let v64 : BitVec 32 := Scalar.muli v51 c1_i32_45
  let v65 : BitVec 32 := Scalar.addi c0_i32_46 v64
  v65.toNat
def k0_dev5 (d0 : Dev nD) : Nat :=
  let c0_i32_56 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c2_i32_9 : BitVec 32 := 2#32
  let v25 : BitVec 1 := Scalar.cmpi .sge v20 c2_i32_9
  let c1_i32_10 : BitVec 32 := 1#32
  let c0_i32_11 : BitVec 32 := 0#32
  let v26 : BitVec 32 := Scalar.select v25 c1_i32_10 c0_i32_11
  let c0_i32_12 : BitVec 32 := 0#32
  let v28 : BitVec 1 := Scalar.cmpi .eq v26 c0_i32_12
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c7_i32 : BitVec 32 := 7#32
  let v29 : BitVec 32 := Scalar.subi c7_i32 v19
  let v30 : BitVec 32 := Scalar.select v28 v19 v29
  let c1_i32_13 : BitVec 32 := 1#32
  let v31 : BitVec 32 := Scalar.addi v30 c1_i32_13
  let c16_i32_14 : BitVec 32 := 16#32
  let v32 : BitVec 32 := Scalar.addi v31 c16_i32_14
  let c8_i32 : BitVec 32 := 8#32
  let v33 : BitVec 32 := Scalar.remsi v32 c8_i32
  let c4_i32_15 : BitVec 32 := 4#32
  let v34 : BitVec 1 := Scalar.cmpi .slt v33 c4_i32_15
  let c4_i32_16 : BitVec 32 := 4#32
  let v35 : BitVec 32 := Scalar.muli c4_i32_16 v33
  let c1_i32_6 : BitVec 32 := 1#32
  let v21 : BitVec 1 := Scalar.cmpi .eq v20 c1_i32_6
  let c2_i32 : BitVec 32 := 2#32
  let v22 : BitVec 1 := Scalar.cmpi .eq v20 c2_i32
  let v23 : BitVec 1 := Scalar.ori v21 v22
  let c1_i32_7 : BitVec 32 := 1#32
  let c0_i32_8 : BitVec 32 := 0#32
  let v24 : BitVec 32 := Scalar.select v23 c1_i32_7 c0_i32_8
  let v36 : BitVec 32 := Scalar.addi v35 v24
  let c4_i32_18 : BitVec 32 := 4#32
  let c7_i32_17 : BitVec 32 := 7#32
  let v37 : BitVec 32 := Scalar.subi c7_i32_17 v33
  let v38 : BitVec 32 := Scalar.muli c4_i32_18 v37
  let c3_i32 : BitVec 32 := 3#32
  let v27 : BitVec 32 := Scalar.subi c3_i32 v24
  let v39 : BitVec 32 := Scalar.addi v38 v27
  let v40 : BitVec 32 := Scalar.select v34 v36 v39
  let c1_i32_55 : BitVec 32 := 1#32
  let v74 : BitVec 32 := Scalar.muli v40 c1_i32_55
  let v75 : BitVec 32 := Scalar.addi c0_i32_56 v74
  v75.toNat
def k0_dev6 (d0 : Dev nD) : Nat :=
  let c0_i32_66 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c2_i32_9 : BitVec 32 := 2#32
  let v25 : BitVec 1 := Scalar.cmpi .sge v20 c2_i32_9
  let c1_i32_10 : BitVec 32 := 1#32
  let c0_i32_11 : BitVec 32 := 0#32
  let v26 : BitVec 32 := Scalar.select v25 c1_i32_10 c0_i32_11
  let c0_i32_12 : BitVec 32 := 0#32
  let v28 : BitVec 1 := Scalar.cmpi .eq v26 c0_i32_12
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c7_i32 : BitVec 32 := 7#32
  let v29 : BitVec 32 := Scalar.subi c7_i32 v19
  let v30 : BitVec 32 := Scalar.select v28 v19 v29
  let c1_i32_19 : BitVec 32 := 1#32
  let v41 : BitVec 32 := Scalar.subi v30 c1_i32_19
  let c16_i32_20 : BitVec 32 := 16#32
  let v42 : BitVec 32 := Scalar.addi v41 c16_i32_20
  let c8_i32_21 : BitVec 32 := 8#32
  let v43 : BitVec 32 := Scalar.remsi v42 c8_i32_21
  let c4_i32_22 : BitVec 32 := 4#32
  let v44 : BitVec 1 := Scalar.cmpi .slt v43 c4_i32_22
  let c4_i32_23 : BitVec 32 := 4#32
  let v45 : BitVec 32 := Scalar.muli c4_i32_23 v43
  let c1_i32_6 : BitVec 32 := 1#32
  let v21 : BitVec 1 := Scalar.cmpi .eq v20 c1_i32_6
  let c2_i32 : BitVec 32 := 2#32
  let v22 : BitVec 1 := Scalar.cmpi .eq v20 c2_i32
  let v23 : BitVec 1 := Scalar.ori v21 v22
  let c1_i32_7 : BitVec 32 := 1#32
  let c0_i32_8 : BitVec 32 := 0#32
  let v24 : BitVec 32 := Scalar.select v23 c1_i32_7 c0_i32_8
  let v46 : BitVec 32 := Scalar.addi v45 v24
  let c4_i32_25 : BitVec 32 := 4#32
  let c7_i32_24 : BitVec 32 := 7#32
  let v47 : BitVec 32 := Scalar.subi c7_i32_24 v43
  let v48 : BitVec 32 := Scalar.muli c4_i32_25 v47
  let c3_i32 : BitVec 32 := 3#32
  let v27 : BitVec 32 := Scalar.subi c3_i32 v24
  let v49 : BitVec 32 := Scalar.addi v48 v27
  let v50 : BitVec 32 := Scalar.select v44 v46 v49
  let c1_i32_65 : BitVec 32 := 1#32
  let v84 : BitVec 32 := Scalar.muli v50 c1_i32_65
  let v85 : BitVec 32 := Scalar.addi c0_i32_66 v84
  v85.toNat
def k0_off1 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32 : BitVec 32 := 256#32
  let v99 : BitVec 32 := Scalar.muli v2 c256_i32
  let v100 : Index := Scalar.indexCast v99
  let c0_76 : Index := 0#32
  ![v100.toNat, 0]
def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_26 : BitVec 32 := 1#32
  let v51 : BitVec 32 := Scalar.xori v2 c1_i32_26
  let c256_i32_92 : BitVec 32 := 256#32
  let v115 : BitVec 32 := Scalar.muli v51 c256_i32_92
  let v116 : Index := Scalar.indexCast v115
  let c0_93 : Index := 0#32
  ![v116.toNat, 0]
def k0_dev7 (d0 : Dev nD) : Nat :=
  let c0_i32_109 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c2_i32_9 : BitVec 32 := 2#32
  let v25 : BitVec 1 := Scalar.cmpi .sge v20 c2_i32_9
  let c1_i32_10 : BitVec 32 := 1#32
  let c0_i32_11 : BitVec 32 := 0#32
  let v26 : BitVec 32 := Scalar.select v25 c1_i32_10 c0_i32_11
  let c0_i32_12 : BitVec 32 := 0#32
  let v28 : BitVec 1 := Scalar.cmpi .eq v26 c0_i32_12
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c7_i32 : BitVec 32 := 7#32
  let v29 : BitVec 32 := Scalar.subi c7_i32 v19
  let v30 : BitVec 32 := Scalar.select v28 v19 v29
  let c1_i32_13 : BitVec 32 := 1#32
  let v31 : BitVec 32 := Scalar.addi v30 c1_i32_13
  let c16_i32_14 : BitVec 32 := 16#32
  let v32 : BitVec 32 := Scalar.addi v31 c16_i32_14
  let c8_i32 : BitVec 32 := 8#32
  let v33 : BitVec 32 := Scalar.remsi v32 c8_i32
  let c4_i32_15 : BitVec 32 := 4#32
  let v34 : BitVec 1 := Scalar.cmpi .slt v33 c4_i32_15
  let c4_i32_16 : BitVec 32 := 4#32
  let v35 : BitVec 32 := Scalar.muli c4_i32_16 v33
  let c1_i32_6 : BitVec 32 := 1#32
  let v21 : BitVec 1 := Scalar.cmpi .eq v20 c1_i32_6
  let c2_i32 : BitVec 32 := 2#32
  let v22 : BitVec 1 := Scalar.cmpi .eq v20 c2_i32
  let v23 : BitVec 1 := Scalar.ori v21 v22
  let c1_i32_7 : BitVec 32 := 1#32
  let c0_i32_8 : BitVec 32 := 0#32
  let v24 : BitVec 32 := Scalar.select v23 c1_i32_7 c0_i32_8
  let v36 : BitVec 32 := Scalar.addi v35 v24
  let c4_i32_18 : BitVec 32 := 4#32
  let c7_i32_17 : BitVec 32 := 7#32
  let v37 : BitVec 32 := Scalar.subi c7_i32_17 v33
  let v38 : BitVec 32 := Scalar.muli c4_i32_18 v37
  let c3_i32 : BitVec 32 := 3#32
  let v27 : BitVec 32 := Scalar.subi c3_i32 v24
  let v39 : BitVec 32 := Scalar.addi v38 v27
  let v40 : BitVec 32 := Scalar.select v34 v36 v39
  let c1_i32_108 : BitVec 32 := 1#32
  let v126 : BitVec 32 := Scalar.muli v40 c1_i32_108
  let v127 : BitVec 32 := Scalar.addi c0_i32_109 v126
  v127.toNat
def k0_dev8 (d0 : Dev nD) : Nat :=
  let c0_i32_118 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_26 : BitVec 32 := 1#32
  let v51 : BitVec 32 := Scalar.xori v2 c1_i32_26
  let c1_i32_117 : BitVec 32 := 1#32
  let v136 : BitVec 32 := Scalar.muli v51 c1_i32_117
  let v137 : BitVec 32 := Scalar.addi c0_i32_118 v136
  v137.toNat
def k0_off3 (d0 : Dev nD) (c1_i32_123 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c2_i32_9 : BitVec 32 := 2#32
  let v25 : BitVec 1 := Scalar.cmpi .sge v20 c2_i32_9
  let c1_i32_10 : BitVec 32 := 1#32
  let c0_i32_11 : BitVec 32 := 0#32
  let v26 : BitVec 32 := Scalar.select v25 c1_i32_10 c0_i32_11
  let c0_i32_12 : BitVec 32 := 0#32
  let v28 : BitVec 1 := Scalar.cmpi .eq v26 c0_i32_12
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c7_i32 : BitVec 32 := 7#32
  let v29 : BitVec 32 := Scalar.subi c7_i32 v19
  let v30 : BitVec 32 := Scalar.select v28 v19 v29
  let v146 : BitVec 32 := Scalar.subi v30 c1_i32_123
  let c16_i32_124 : BitVec 32 := 16#32
  let v147 : BitVec 32 := Scalar.addi v146 c16_i32_124
  let c8_i32_125 : BitVec 32 := 8#32
  let v148 : BitVec 32 := Scalar.remsi v147 c8_i32_125
  let c4_i32_126 : BitVec 32 := 4#32
  let v149 : BitVec 1 := Scalar.cmpi .slt v148 c4_i32_126
  let c4_i32_127 : BitVec 32 := 4#32
  let v150 : BitVec 32 := Scalar.muli c4_i32_127 v148
  let c1_i32_6 : BitVec 32 := 1#32
  let v21 : BitVec 1 := Scalar.cmpi .eq v20 c1_i32_6
  let c2_i32 : BitVec 32 := 2#32
  let v22 : BitVec 1 := Scalar.cmpi .eq v20 c2_i32
  let v23 : BitVec 1 := Scalar.ori v21 v22
  let c1_i32_7 : BitVec 32 := 1#32
  let c0_i32_8 : BitVec 32 := 0#32
  let v24 : BitVec 32 := Scalar.select v23 c1_i32_7 c0_i32_8
  let v151 : BitVec 32 := Scalar.addi v150 v24
  let c4_i32_129 : BitVec 32 := 4#32
  let c7_i32_128 : BitVec 32 := 7#32
  let v152 : BitVec 32 := Scalar.subi c7_i32_128 v148
  let v153 : BitVec 32 := Scalar.muli c4_i32_129 v152
  let c3_i32 : BitVec 32 := 3#32
  let v27 : BitVec 32 := Scalar.subi c3_i32 v24
  let v154 : BitVec 32 := Scalar.addi v153 v27
  let v155 : BitVec 32 := Scalar.select v149 v151 v154
  let c256_i32_135 : BitVec 32 := 256#32
  let v161 : BitVec 32 := Scalar.muli v155 c256_i32_135
  let v162 : Index := Scalar.indexCast v161
  let c0_136 : Index := 0#32
  ![v162.toNat, 0]
def k0_dev9 (d0 : Dev nD) : Nat :=
  let c0_i32_151 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c2_i32_9 : BitVec 32 := 2#32
  let v25 : BitVec 1 := Scalar.cmpi .sge v20 c2_i32_9
  let c1_i32_10 : BitVec 32 := 1#32
  let c0_i32_11 : BitVec 32 := 0#32
  let v26 : BitVec 32 := Scalar.select v25 c1_i32_10 c0_i32_11
  let c0_i32_12 : BitVec 32 := 0#32
  let v28 : BitVec 1 := Scalar.cmpi .eq v26 c0_i32_12
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c7_i32 : BitVec 32 := 7#32
  let v29 : BitVec 32 := Scalar.subi c7_i32 v19
  let v30 : BitVec 32 := Scalar.select v28 v19 v29
  let c1_i32_19 : BitVec 32 := 1#32
  let v41 : BitVec 32 := Scalar.subi v30 c1_i32_19
  let c16_i32_20 : BitVec 32 := 16#32
  let v42 : BitVec 32 := Scalar.addi v41 c16_i32_20
  let c8_i32_21 : BitVec 32 := 8#32
  let v43 : BitVec 32 := Scalar.remsi v42 c8_i32_21
  let c4_i32_22 : BitVec 32 := 4#32
  let v44 : BitVec 1 := Scalar.cmpi .slt v43 c4_i32_22
  let c4_i32_23 : BitVec 32 := 4#32
  let v45 : BitVec 32 := Scalar.muli c4_i32_23 v43
  let c1_i32_6 : BitVec 32 := 1#32
  let v21 : BitVec 1 := Scalar.cmpi .eq v20 c1_i32_6
  let c2_i32 : BitVec 32 := 2#32
  let v22 : BitVec 1 := Scalar.cmpi .eq v20 c2_i32
  let v23 : BitVec 1 := Scalar.ori v21 v22
  let c1_i32_7 : BitVec 32 := 1#32
  let c0_i32_8 : BitVec 32 := 0#32
  let v24 : BitVec 32 := Scalar.select v23 c1_i32_7 c0_i32_8
  let v46 : BitVec 32 := Scalar.addi v45 v24
  let c4_i32_25 : BitVec 32 := 4#32
  let c7_i32_24 : BitVec 32 := 7#32
  let v47 : BitVec 32 := Scalar.subi c7_i32_24 v43
  let v48 : BitVec 32 := Scalar.muli c4_i32_25 v47
  let c3_i32 : BitVec 32 := 3#32
  let v27 : BitVec 32 := Scalar.subi c3_i32 v24
  let v49 : BitVec 32 := Scalar.addi v48 v27
  let v50 : BitVec 32 := Scalar.select v44 v46 v49
  let c1_i32_150 : BitVec 32 := 1#32
  let v172 : BitVec 32 := Scalar.muli v50 c1_i32_150
  let v173 : BitVec 32 := Scalar.addi c0_i32_151 v172
  v173.toNat
def k0_off4 (d0 : Dev nD) (c1_i32_156 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c2_i32_9 : BitVec 32 := 2#32
  let v25 : BitVec 1 := Scalar.cmpi .sge v20 c2_i32_9
  let c1_i32_10 : BitVec 32 := 1#32
  let c0_i32_11 : BitVec 32 := 0#32
  let v26 : BitVec 32 := Scalar.select v25 c1_i32_10 c0_i32_11
  let c0_i32_12 : BitVec 32 := 0#32
  let v28 : BitVec 1 := Scalar.cmpi .eq v26 c0_i32_12
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c7_i32 : BitVec 32 := 7#32
  let v29 : BitVec 32 := Scalar.subi c7_i32 v19
  let v30 : BitVec 32 := Scalar.select v28 v19 v29
  let v182 : BitVec 32 := Scalar.addi v30 c1_i32_156
  let c16_i32_157 : BitVec 32 := 16#32
  let v183 : BitVec 32 := Scalar.addi v182 c16_i32_157
  let c8_i32_158 : BitVec 32 := 8#32
  let v184 : BitVec 32 := Scalar.remsi v183 c8_i32_158
  let c4_i32_159 : BitVec 32 := 4#32
  let v185 : BitVec 1 := Scalar.cmpi .slt v184 c4_i32_159
  let c4_i32_160 : BitVec 32 := 4#32
  let v186 : BitVec 32 := Scalar.muli c4_i32_160 v184
  let c1_i32_6 : BitVec 32 := 1#32
  let v21 : BitVec 1 := Scalar.cmpi .eq v20 c1_i32_6
  let c2_i32 : BitVec 32 := 2#32
  let v22 : BitVec 1 := Scalar.cmpi .eq v20 c2_i32
  let v23 : BitVec 1 := Scalar.ori v21 v22
  let c1_i32_7 : BitVec 32 := 1#32
  let c0_i32_8 : BitVec 32 := 0#32
  let v24 : BitVec 32 := Scalar.select v23 c1_i32_7 c0_i32_8
  let v187 : BitVec 32 := Scalar.addi v186 v24
  let c4_i32_162 : BitVec 32 := 4#32
  let c7_i32_161 : BitVec 32 := 7#32
  let v188 : BitVec 32 := Scalar.subi c7_i32_161 v184
  let v189 : BitVec 32 := Scalar.muli c4_i32_162 v188
  let c3_i32 : BitVec 32 := 3#32
  let v27 : BitVec 32 := Scalar.subi c3_i32 v24
  let v190 : BitVec 32 := Scalar.addi v189 v27
  let v191 : BitVec 32 := Scalar.select v185 v187 v190
  let c256_i32_168 : BitVec 32 := 256#32
  let v197 : BitVec 32 := Scalar.muli v191 c256_i32_168
  let v198 : Index := Scalar.indexCast v197
  let c0_169 : Index := 0#32
  ![v198.toNat, 0]
def k0_dev10 (d0 : Dev nD) : Nat :=
  let c0_i32_185 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c2_i32_9 : BitVec 32 := 2#32
  let v25 : BitVec 1 := Scalar.cmpi .sge v20 c2_i32_9
  let c1_i32_10 : BitVec 32 := 1#32
  let c0_i32_11 : BitVec 32 := 0#32
  let v26 : BitVec 32 := Scalar.select v25 c1_i32_10 c0_i32_11
  let c0_i32_12 : BitVec 32 := 0#32
  let v28 : BitVec 1 := Scalar.cmpi .eq v26 c0_i32_12
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c7_i32 : BitVec 32 := 7#32
  let v29 : BitVec 32 := Scalar.subi c7_i32 v19
  let v30 : BitVec 32 := Scalar.select v28 v19 v29
  let c1_i32_13 : BitVec 32 := 1#32
  let v31 : BitVec 32 := Scalar.addi v30 c1_i32_13
  let c16_i32_14 : BitVec 32 := 16#32
  let v32 : BitVec 32 := Scalar.addi v31 c16_i32_14
  let c8_i32 : BitVec 32 := 8#32
  let v33 : BitVec 32 := Scalar.remsi v32 c8_i32
  let c4_i32_15 : BitVec 32 := 4#32
  let v34 : BitVec 1 := Scalar.cmpi .slt v33 c4_i32_15
  let c4_i32_16 : BitVec 32 := 4#32
  let v35 : BitVec 32 := Scalar.muli c4_i32_16 v33
  let c1_i32_6 : BitVec 32 := 1#32
  let v21 : BitVec 1 := Scalar.cmpi .eq v20 c1_i32_6
  let c2_i32 : BitVec 32 := 2#32
  let v22 : BitVec 1 := Scalar.cmpi .eq v20 c2_i32
  let v23 : BitVec 1 := Scalar.ori v21 v22
  let c1_i32_7 : BitVec 32 := 1#32
  let c0_i32_8 : BitVec 32 := 0#32
  let v24 : BitVec 32 := Scalar.select v23 c1_i32_7 c0_i32_8
  let v36 : BitVec 32 := Scalar.addi v35 v24
  let c4_i32_18 : BitVec 32 := 4#32
  let c7_i32_17 : BitVec 32 := 7#32
  let v37 : BitVec 32 := Scalar.subi c7_i32_17 v33
  let v38 : BitVec 32 := Scalar.muli c4_i32_18 v37
  let c3_i32 : BitVec 32 := 3#32
  let v27 : BitVec 32 := Scalar.subi c3_i32 v24
  let v39 : BitVec 32 := Scalar.addi v38 v27
  let v40 : BitVec 32 := Scalar.select v34 v36 v39
  let c1_i32_184 : BitVec 32 := 1#32
  let v208 : BitVec 32 := Scalar.muli v40 c1_i32_184
  let v209 : BitVec 32 := Scalar.addi c0_i32_185 v208
  v209.toNat
def k0_dev11 (d0 : Dev nD) : Nat :=
  let c0_i32_194 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_26 : BitVec 32 := 1#32
  let v51 : BitVec 32 := Scalar.xori v2 c1_i32_26
  let c1_i32_193 : BitVec 32 := 1#32
  let v218 : BitVec 32 := Scalar.muli v51 c1_i32_193
  let v219 : BitVec 32 := Scalar.addi c0_i32_194 v218
  v219.toNat
def k0_dev12 (d0 : Dev nD) : Nat :=
  let c0_i32_204 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_26 : BitVec 32 := 1#32
  let v51 : BitVec 32 := Scalar.xori v2 c1_i32_26
  let c1_i32_203 : BitVec 32 := 1#32
  let v228 : BitVec 32 := Scalar.muli v51 c1_i32_203
  let v229 : BitVec 32 := Scalar.addi c0_i32_204 v228
  v229.toNat
def k0_dev13 (d0 : Dev nD) : Nat :=
  let c0_i32_236 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c2_i32_9 : BitVec 32 := 2#32
  let v25 : BitVec 1 := Scalar.cmpi .sge v20 c2_i32_9
  let c1_i32_10 : BitVec 32 := 1#32
  let c0_i32_11 : BitVec 32 := 0#32
  let v26 : BitVec 32 := Scalar.select v25 c1_i32_10 c0_i32_11
  let c0_i32_12 : BitVec 32 := 0#32
  let v28 : BitVec 1 := Scalar.cmpi .eq v26 c0_i32_12
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c7_i32 : BitVec 32 := 7#32
  let v29 : BitVec 32 := Scalar.subi c7_i32 v19
  let v30 : BitVec 32 := Scalar.select v28 v19 v29
  let c1_i32_19 : BitVec 32 := 1#32
  let v41 : BitVec 32 := Scalar.subi v30 c1_i32_19
  let c16_i32_20 : BitVec 32 := 16#32
  let v42 : BitVec 32 := Scalar.addi v41 c16_i32_20
  let c8_i32_21 : BitVec 32 := 8#32
  let v43 : BitVec 32 := Scalar.remsi v42 c8_i32_21
  let c4_i32_22 : BitVec 32 := 4#32
  let v44 : BitVec 1 := Scalar.cmpi .slt v43 c4_i32_22
  let c4_i32_23 : BitVec 32 := 4#32
  let v45 : BitVec 32 := Scalar.muli c4_i32_23 v43
  let c1_i32_6 : BitVec 32 := 1#32
  let v21 : BitVec 1 := Scalar.cmpi .eq v20 c1_i32_6
  let c2_i32 : BitVec 32 := 2#32
  let v22 : BitVec 1 := Scalar.cmpi .eq v20 c2_i32
  let v23 : BitVec 1 := Scalar.ori v21 v22
  let c1_i32_7 : BitVec 32 := 1#32
  let c0_i32_8 : BitVec 32 := 0#32
  let v24 : BitVec 32 := Scalar.select v23 c1_i32_7 c0_i32_8
  let v46 : BitVec 32 := Scalar.addi v45 v24
  let c4_i32_25 : BitVec 32 := 4#32
  let c7_i32_24 : BitVec 32 := 7#32
  let v47 : BitVec 32 := Scalar.subi c7_i32_24 v43
  let v48 : BitVec 32 := Scalar.muli c4_i32_25 v47
  let c3_i32 : BitVec 32 := 3#32
  let v27 : BitVec 32 := Scalar.subi c3_i32 v24
  let v49 : BitVec 32 := Scalar.addi v48 v27
  let v50 : BitVec 32 := Scalar.select v44 v46 v49
  let c1_i32_235 : BitVec 32 := 1#32
  let v264 : BitVec 32 := Scalar.muli v50 c1_i32_235
  let v265 : BitVec 32 := Scalar.addi c0_i32_236 v264
  v265.toNat
def k0_dev14 (d0 : Dev nD) : Nat :=
  let c0_i32_245 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_26 : BitVec 32 := 1#32
  let v51 : BitVec 32 := Scalar.xori v2 c1_i32_26
  let c1_i32_244 : BitVec 32 := 1#32
  let v274 : BitVec 32 := Scalar.muli v51 c1_i32_244
  let v275 : BitVec 32 := Scalar.addi c0_i32_245 v274
  v275.toNat
def k0_dev15 (d0 : Dev nD) : Nat :=
  let c0_i32_254 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_26 : BitVec 32 := 1#32
  let v51 : BitVec 32 := Scalar.xori v2 c1_i32_26
  let c1_i32_253 : BitVec 32 := 1#32
  let v284 : BitVec 32 := Scalar.muli v51 c1_i32_253
  let v285 : BitVec 32 := Scalar.addi c0_i32_254 v284
  v285.toNat
def k0_dev16 (d0 : Dev nD) : Nat :=
  let c0_i32_262 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_26 : BitVec 32 := 1#32
  let v51 : BitVec 32 := Scalar.xori v2 c1_i32_26
  let c1_i32_261 : BitVec 32 := 1#32
  let v294 : BitVec 32 := Scalar.muli v51 c1_i32_261
  let v295 : BitVec 32 := Scalar.addi c0_i32_262 v294
  v295.toNat
def k0_dev17 (d0 : Dev nD) : Nat :=
  let c0_i32_296 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c2_i32_9 : BitVec 32 := 2#32
  let v25 : BitVec 1 := Scalar.cmpi .sge v20 c2_i32_9
  let c1_i32_10 : BitVec 32 := 1#32
  let c0_i32_11 : BitVec 32 := 0#32
  let v26 : BitVec 32 := Scalar.select v25 c1_i32_10 c0_i32_11
  let c0_i32_12 : BitVec 32 := 0#32
  let v28 : BitVec 1 := Scalar.cmpi .eq v26 c0_i32_12
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c7_i32 : BitVec 32 := 7#32
  let v29 : BitVec 32 := Scalar.subi c7_i32 v19
  let v30 : BitVec 32 := Scalar.select v28 v19 v29
  let c1_i32_13 : BitVec 32 := 1#32
  let v31 : BitVec 32 := Scalar.addi v30 c1_i32_13
  let c16_i32_14 : BitVec 32 := 16#32
  let v32 : BitVec 32 := Scalar.addi v31 c16_i32_14
  let c8_i32 : BitVec 32 := 8#32
  let v33 : BitVec 32 := Scalar.remsi v32 c8_i32
  let c4_i32_15 : BitVec 32 := 4#32
  let v34 : BitVec 1 := Scalar.cmpi .slt v33 c4_i32_15
  let c4_i32_16 : BitVec 32 := 4#32
  let v35 : BitVec 32 := Scalar.muli c4_i32_16 v33
  let c1_i32_6 : BitVec 32 := 1#32
  let v21 : BitVec 1 := Scalar.cmpi .eq v20 c1_i32_6
  let c2_i32 : BitVec 32 := 2#32
  let v22 : BitVec 1 := Scalar.cmpi .eq v20 c2_i32
  let v23 : BitVec 1 := Scalar.ori v21 v22
  let c1_i32_7 : BitVec 32 := 1#32
  let c0_i32_8 : BitVec 32 := 0#32
  let v24 : BitVec 32 := Scalar.select v23 c1_i32_7 c0_i32_8
  let v36 : BitVec 32 := Scalar.addi v35 v24
  let c4_i32_18 : BitVec 32 := 4#32
  let c7_i32_17 : BitVec 32 := 7#32
  let v37 : BitVec 32 := Scalar.subi c7_i32_17 v33
  let v38 : BitVec 32 := Scalar.muli c4_i32_18 v37
  let c3_i32 : BitVec 32 := 3#32
  let v27 : BitVec 32 := Scalar.subi c3_i32 v24
  let v39 : BitVec 32 := Scalar.addi v38 v27
  let v40 : BitVec 32 := Scalar.select v34 v36 v39
  let c1_i32_295 : BitVec 32 := 1#32
  let v330 : BitVec 32 := Scalar.muli v40 c1_i32_295
  let v331 : BitVec 32 := Scalar.addi c0_i32_296 v330
  v331.toNat
def k0_dev18 (d0 : Dev nD) : Nat :=
  let c0_i32_316 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c2_i32_9 : BitVec 32 := 2#32
  let v25 : BitVec 1 := Scalar.cmpi .sge v20 c2_i32_9
  let c1_i32_10 : BitVec 32 := 1#32
  let c0_i32_11 : BitVec 32 := 0#32
  let v26 : BitVec 32 := Scalar.select v25 c1_i32_10 c0_i32_11
  let c0_i32_12 : BitVec 32 := 0#32
  let v28 : BitVec 1 := Scalar.cmpi .eq v26 c0_i32_12
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c7_i32 : BitVec 32 := 7#32
  let v29 : BitVec 32 := Scalar.subi c7_i32 v19
  let v30 : BitVec 32 := Scalar.select v28 v19 v29
  let c1_i32_13 : BitVec 32 := 1#32
  let v31 : BitVec 32 := Scalar.addi v30 c1_i32_13
  let c16_i32_14 : BitVec 32 := 16#32
  let v32 : BitVec 32 := Scalar.addi v31 c16_i32_14
  let c8_i32 : BitVec 32 := 8#32
  let v33 : BitVec 32 := Scalar.remsi v32 c8_i32
  let c4_i32_15 : BitVec 32 := 4#32
  let v34 : BitVec 1 := Scalar.cmpi .slt v33 c4_i32_15
  let c4_i32_16 : BitVec 32 := 4#32
  let v35 : BitVec 32 := Scalar.muli c4_i32_16 v33
  let c1_i32_6 : BitVec 32 := 1#32
  let v21 : BitVec 1 := Scalar.cmpi .eq v20 c1_i32_6
  let c2_i32 : BitVec 32 := 2#32
  let v22 : BitVec 1 := Scalar.cmpi .eq v20 c2_i32
  let v23 : BitVec 1 := Scalar.ori v21 v22
  let c1_i32_7 : BitVec 32 := 1#32
  let c0_i32_8 : BitVec 32 := 0#32
  let v24 : BitVec 32 := Scalar.select v23 c1_i32_7 c0_i32_8
  let v36 : BitVec 32 := Scalar.addi v35 v24
  let c4_i32_18 : BitVec 32 := 4#32
  let c7_i32_17 : BitVec 32 := 7#32
  let v37 : BitVec 32 := Scalar.subi c7_i32_17 v33
  let v38 : BitVec 32 := Scalar.muli c4_i32_18 v37
  let c3_i32 : BitVec 32 := 3#32
  let v27 : BitVec 32 := Scalar.subi c3_i32 v24
  let v39 : BitVec 32 := Scalar.addi v38 v27
  let v40 : BitVec 32 := Scalar.select v34 v36 v39
  let c1_i32_315 : BitVec 32 := 1#32
  let v348 : BitVec 32 := Scalar.muli v40 c1_i32_315
  let v349 : BitVec 32 := Scalar.addi c0_i32_316 v348
  v349.toNat
def k0_dev19 (d0 : Dev nD) : Nat :=
  let c0_i32_350 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c2_i32_9 : BitVec 32 := 2#32
  let v25 : BitVec 1 := Scalar.cmpi .sge v20 c2_i32_9
  let c1_i32_10 : BitVec 32 := 1#32
  let c0_i32_11 : BitVec 32 := 0#32
  let v26 : BitVec 32 := Scalar.select v25 c1_i32_10 c0_i32_11
  let c0_i32_12 : BitVec 32 := 0#32
  let v28 : BitVec 1 := Scalar.cmpi .eq v26 c0_i32_12
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c7_i32 : BitVec 32 := 7#32
  let v29 : BitVec 32 := Scalar.subi c7_i32 v19
  let v30 : BitVec 32 := Scalar.select v28 v19 v29
  let c1_i32_13 : BitVec 32 := 1#32
  let v31 : BitVec 32 := Scalar.addi v30 c1_i32_13
  let c16_i32_14 : BitVec 32 := 16#32
  let v32 : BitVec 32 := Scalar.addi v31 c16_i32_14
  let c8_i32 : BitVec 32 := 8#32
  let v33 : BitVec 32 := Scalar.remsi v32 c8_i32
  let c4_i32_15 : BitVec 32 := 4#32
  let v34 : BitVec 1 := Scalar.cmpi .slt v33 c4_i32_15
  let c4_i32_16 : BitVec 32 := 4#32
  let v35 : BitVec 32 := Scalar.muli c4_i32_16 v33
  let c1_i32_6 : BitVec 32 := 1#32
  let v21 : BitVec 1 := Scalar.cmpi .eq v20 c1_i32_6
  let c2_i32 : BitVec 32 := 2#32
  let v22 : BitVec 1 := Scalar.cmpi .eq v20 c2_i32
  let v23 : BitVec 1 := Scalar.ori v21 v22
  let c1_i32_7 : BitVec 32 := 1#32
  let c0_i32_8 : BitVec 32 := 0#32
  let v24 : BitVec 32 := Scalar.select v23 c1_i32_7 c0_i32_8
  let v36 : BitVec 32 := Scalar.addi v35 v24
  let c4_i32_18 : BitVec 32 := 4#32
  let c7_i32_17 : BitVec 32 := 7#32
  let v37 : BitVec 32 := Scalar.subi c7_i32_17 v33
  let v38 : BitVec 32 := Scalar.muli c4_i32_18 v37
  let c3_i32 : BitVec 32 := 3#32
  let v27 : BitVec 32 := Scalar.subi c3_i32 v24
  let v39 : BitVec 32 := Scalar.addi v38 v27
  let v40 : BitVec 32 := Scalar.select v34 v36 v39
  let c1_i32_349 : BitVec 32 := 1#32
  let v384 : BitVec 32 := Scalar.muli v40 c1_i32_349
  let v385 : BitVec 32 := Scalar.addi c0_i32_350 v384
  v385.toNat
def k0_off5 (d0 : Dev nD) (c2_i32_355 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c2_i32_9 : BitVec 32 := 2#32
  let v25 : BitVec 1 := Scalar.cmpi .sge v20 c2_i32_9
  let c1_i32_10 : BitVec 32 := 1#32
  let c0_i32_11 : BitVec 32 := 0#32
  let v26 : BitVec 32 := Scalar.select v25 c1_i32_10 c0_i32_11
  let c0_i32_12 : BitVec 32 := 0#32
  let v28 : BitVec 1 := Scalar.cmpi .eq v26 c0_i32_12
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c7_i32 : BitVec 32 := 7#32
  let v29 : BitVec 32 := Scalar.subi c7_i32 v19
  let v30 : BitVec 32 := Scalar.select v28 v19 v29
  let v394 : BitVec 32 := Scalar.subi v30 c2_i32_355
  let c16_i32_356 : BitVec 32 := 16#32
  let v395 : BitVec 32 := Scalar.addi v394 c16_i32_356
  let c8_i32_357 : BitVec 32 := 8#32
  let v396 : BitVec 32 := Scalar.remsi v395 c8_i32_357
  let c4_i32_358 : BitVec 32 := 4#32
  let v397 : BitVec 1 := Scalar.cmpi .slt v396 c4_i32_358
  let c4_i32_359 : BitVec 32 := 4#32
  let v398 : BitVec 32 := Scalar.muli c4_i32_359 v396
  let c1_i32_6 : BitVec 32 := 1#32
  let v21 : BitVec 1 := Scalar.cmpi .eq v20 c1_i32_6
  let c2_i32 : BitVec 32 := 2#32
  let v22 : BitVec 1 := Scalar.cmpi .eq v20 c2_i32
  let v23 : BitVec 1 := Scalar.ori v21 v22
  let c1_i32_7 : BitVec 32 := 1#32
  let c0_i32_8 : BitVec 32 := 0#32
  let v24 : BitVec 32 := Scalar.select v23 c1_i32_7 c0_i32_8
  let v399 : BitVec 32 := Scalar.addi v398 v24
  let c4_i32_361 : BitVec 32 := 4#32
  let c7_i32_360 : BitVec 32 := 7#32
  let v400 : BitVec 32 := Scalar.subi c7_i32_360 v396
  let v401 : BitVec 32 := Scalar.muli c4_i32_361 v400
  let c3_i32 : BitVec 32 := 3#32
  let v27 : BitVec 32 := Scalar.subi c3_i32 v24
  let v402 : BitVec 32 := Scalar.addi v401 v27
  let v403 : BitVec 32 := Scalar.select v397 v399 v402
  let c1_i32_362 : BitVec 32 := 1#32
  let v404 : BitVec 32 := Scalar.xori v403 c1_i32_362
  let c256_i32_368 : BitVec 32 := 256#32
  let v410 : BitVec 32 := Scalar.muli v404 c256_i32_368
  let v411 : Index := Scalar.indexCast v410
  let c0_369 : Index := 0#32
  ![v411.toNat, 0]
def k0_dev20 (d0 : Dev nD) : Nat :=
  let c0_i32_385 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c2_i32_9 : BitVec 32 := 2#32
  let v25 : BitVec 1 := Scalar.cmpi .sge v20 c2_i32_9
  let c1_i32_10 : BitVec 32 := 1#32
  let c0_i32_11 : BitVec 32 := 0#32
  let v26 : BitVec 32 := Scalar.select v25 c1_i32_10 c0_i32_11
  let c0_i32_12 : BitVec 32 := 0#32
  let v28 : BitVec 1 := Scalar.cmpi .eq v26 c0_i32_12
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c7_i32 : BitVec 32 := 7#32
  let v29 : BitVec 32 := Scalar.subi c7_i32 v19
  let v30 : BitVec 32 := Scalar.select v28 v19 v29
  let c1_i32_19 : BitVec 32 := 1#32
  let v41 : BitVec 32 := Scalar.subi v30 c1_i32_19
  let c16_i32_20 : BitVec 32 := 16#32
  let v42 : BitVec 32 := Scalar.addi v41 c16_i32_20
  let c8_i32_21 : BitVec 32 := 8#32
  let v43 : BitVec 32 := Scalar.remsi v42 c8_i32_21
  let c4_i32_22 : BitVec 32 := 4#32
  let v44 : BitVec 1 := Scalar.cmpi .slt v43 c4_i32_22
  let c4_i32_23 : BitVec 32 := 4#32
  let v45 : BitVec 32 := Scalar.muli c4_i32_23 v43
  let c1_i32_6 : BitVec 32 := 1#32
  let v21 : BitVec 1 := Scalar.cmpi .eq v20 c1_i32_6
  let c2_i32 : BitVec 32 := 2#32
  let v22 : BitVec 1 := Scalar.cmpi .eq v20 c2_i32
  let v23 : BitVec 1 := Scalar.ori v21 v22
  let c1_i32_7 : BitVec 32 := 1#32
  let c0_i32_8 : BitVec 32 := 0#32
  let v24 : BitVec 32 := Scalar.select v23 c1_i32_7 c0_i32_8
  let v46 : BitVec 32 := Scalar.addi v45 v24
  let c4_i32_25 : BitVec 32 := 4#32
  let c7_i32_24 : BitVec 32 := 7#32
  let v47 : BitVec 32 := Scalar.subi c7_i32_24 v43
  let v48 : BitVec 32 := Scalar.muli c4_i32_25 v47
  let c3_i32 : BitVec 32 := 3#32
  let v27 : BitVec 32 := Scalar.subi c3_i32 v24
  let v49 : BitVec 32 := Scalar.addi v48 v27
  let v50 : BitVec 32 := Scalar.select v44 v46 v49
  let c1_i32_384 : BitVec 32 := 1#32
  let v421 : BitVec 32 := Scalar.muli v50 c1_i32_384
  let v422 : BitVec 32 := Scalar.addi c0_i32_385 v421
  v422.toNat
def k0_dev21 (d0 : Dev nD) : Nat :=
  let c0_i32_443 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c2_i32_9 : BitVec 32 := 2#32
  let v25 : BitVec 1 := Scalar.cmpi .sge v20 c2_i32_9
  let c1_i32_10 : BitVec 32 := 1#32
  let c0_i32_11 : BitVec 32 := 0#32
  let v26 : BitVec 32 := Scalar.select v25 c1_i32_10 c0_i32_11
  let c0_i32_12 : BitVec 32 := 0#32
  let v28 : BitVec 1 := Scalar.cmpi .eq v26 c0_i32_12
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c7_i32 : BitVec 32 := 7#32
  let v29 : BitVec 32 := Scalar.subi c7_i32 v19
  let v30 : BitVec 32 := Scalar.select v28 v19 v29
  let c1_i32_19 : BitVec 32 := 1#32
  let v41 : BitVec 32 := Scalar.subi v30 c1_i32_19
  let c16_i32_20 : BitVec 32 := 16#32
  let v42 : BitVec 32 := Scalar.addi v41 c16_i32_20
  let c8_i32_21 : BitVec 32 := 8#32
  let v43 : BitVec 32 := Scalar.remsi v42 c8_i32_21
  let c4_i32_22 : BitVec 32 := 4#32
  let v44 : BitVec 1 := Scalar.cmpi .slt v43 c4_i32_22
  let c4_i32_23 : BitVec 32 := 4#32
  let v45 : BitVec 32 := Scalar.muli c4_i32_23 v43
  let c1_i32_6 : BitVec 32 := 1#32
  let v21 : BitVec 1 := Scalar.cmpi .eq v20 c1_i32_6
  let c2_i32 : BitVec 32 := 2#32
  let v22 : BitVec 1 := Scalar.cmpi .eq v20 c2_i32
  let v23 : BitVec 1 := Scalar.ori v21 v22
  let c1_i32_7 : BitVec 32 := 1#32
  let c0_i32_8 : BitVec 32 := 0#32
  let v24 : BitVec 32 := Scalar.select v23 c1_i32_7 c0_i32_8
  let v46 : BitVec 32 := Scalar.addi v45 v24
  let c4_i32_25 : BitVec 32 := 4#32
  let c7_i32_24 : BitVec 32 := 7#32
  let v47 : BitVec 32 := Scalar.subi c7_i32_24 v43
  let v48 : BitVec 32 := Scalar.muli c4_i32_25 v47
  let c3_i32 : BitVec 32 := 3#32
  let v27 : BitVec 32 := Scalar.subi c3_i32 v24
  let v49 : BitVec 32 := Scalar.addi v48 v27
  let v50 : BitVec 32 := Scalar.select v44 v46 v49
  let c1_i32_442 : BitVec 32 := 1#32
  let v484 : BitVec 32 := Scalar.muli v50 c1_i32_442
  let v485 : BitVec 32 := Scalar.addi c0_i32_443 v484
  v485.toNat
def k0_dev22 (d0 : Dev nD) : Nat :=
  let c0_i32_463 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c2_i32_9 : BitVec 32 := 2#32
  let v25 : BitVec 1 := Scalar.cmpi .sge v20 c2_i32_9
  let c1_i32_10 : BitVec 32 := 1#32
  let c0_i32_11 : BitVec 32 := 0#32
  let v26 : BitVec 32 := Scalar.select v25 c1_i32_10 c0_i32_11
  let c0_i32_12 : BitVec 32 := 0#32
  let v28 : BitVec 1 := Scalar.cmpi .eq v26 c0_i32_12
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c7_i32 : BitVec 32 := 7#32
  let v29 : BitVec 32 := Scalar.subi c7_i32 v19
  let v30 : BitVec 32 := Scalar.select v28 v19 v29
  let c1_i32_19 : BitVec 32 := 1#32
  let v41 : BitVec 32 := Scalar.subi v30 c1_i32_19
  let c16_i32_20 : BitVec 32 := 16#32
  let v42 : BitVec 32 := Scalar.addi v41 c16_i32_20
  let c8_i32_21 : BitVec 32 := 8#32
  let v43 : BitVec 32 := Scalar.remsi v42 c8_i32_21
  let c4_i32_22 : BitVec 32 := 4#32
  let v44 : BitVec 1 := Scalar.cmpi .slt v43 c4_i32_22
  let c4_i32_23 : BitVec 32 := 4#32
  let v45 : BitVec 32 := Scalar.muli c4_i32_23 v43
  let c1_i32_6 : BitVec 32 := 1#32
  let v21 : BitVec 1 := Scalar.cmpi .eq v20 c1_i32_6
  let c2_i32 : BitVec 32 := 2#32
  let v22 : BitVec 1 := Scalar.cmpi .eq v20 c2_i32
  let v23 : BitVec 1 := Scalar.ori v21 v22
  let c1_i32_7 : BitVec 32 := 1#32
  let c0_i32_8 : BitVec 32 := 0#32
  let v24 : BitVec 32 := Scalar.select v23 c1_i32_7 c0_i32_8
  let v46 : BitVec 32 := Scalar.addi v45 v24
  let c4_i32_25 : BitVec 32 := 4#32
  let c7_i32_24 : BitVec 32 := 7#32
  let v47 : BitVec 32 := Scalar.subi c7_i32_24 v43
  let v48 : BitVec 32 := Scalar.muli c4_i32_25 v47
  let c3_i32 : BitVec 32 := 3#32
  let v27 : BitVec 32 := Scalar.subi c3_i32 v24
  let v49 : BitVec 32 := Scalar.addi v48 v27
  let v50 : BitVec 32 := Scalar.select v44 v46 v49
  let c1_i32_462 : BitVec 32 := 1#32
  let v502 : BitVec 32 := Scalar.muli v50 c1_i32_462
  let v503 : BitVec 32 := Scalar.addi c0_i32_463 v502
  v503.toNat
def k0_off6 (d0 : Dev nD) (c2_i32_468 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c2_i32_9 : BitVec 32 := 2#32
  let v25 : BitVec 1 := Scalar.cmpi .sge v20 c2_i32_9
  let c1_i32_10 : BitVec 32 := 1#32
  let c0_i32_11 : BitVec 32 := 0#32
  let v26 : BitVec 32 := Scalar.select v25 c1_i32_10 c0_i32_11
  let c0_i32_12 : BitVec 32 := 0#32
  let v28 : BitVec 1 := Scalar.cmpi .eq v26 c0_i32_12
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c7_i32 : BitVec 32 := 7#32
  let v29 : BitVec 32 := Scalar.subi c7_i32 v19
  let v30 : BitVec 32 := Scalar.select v28 v19 v29
  let v512 : BitVec 32 := Scalar.addi v30 c2_i32_468
  let c16_i32_469 : BitVec 32 := 16#32
  let v513 : BitVec 32 := Scalar.addi v512 c16_i32_469
  let c8_i32_470 : BitVec 32 := 8#32
  let v514 : BitVec 32 := Scalar.remsi v513 c8_i32_470
  let c4_i32_471 : BitVec 32 := 4#32
  let v515 : BitVec 1 := Scalar.cmpi .slt v514 c4_i32_471
  let c4_i32_472 : BitVec 32 := 4#32
  let v516 : BitVec 32 := Scalar.muli c4_i32_472 v514
  let c1_i32_6 : BitVec 32 := 1#32
  let v21 : BitVec 1 := Scalar.cmpi .eq v20 c1_i32_6
  let c2_i32 : BitVec 32 := 2#32
  let v22 : BitVec 1 := Scalar.cmpi .eq v20 c2_i32
  let v23 : BitVec 1 := Scalar.ori v21 v22
  let c1_i32_7 : BitVec 32 := 1#32
  let c0_i32_8 : BitVec 32 := 0#32
  let v24 : BitVec 32 := Scalar.select v23 c1_i32_7 c0_i32_8
  let v517 : BitVec 32 := Scalar.addi v516 v24
  let c4_i32_474 : BitVec 32 := 4#32
  let c7_i32_473 : BitVec 32 := 7#32
  let v518 : BitVec 32 := Scalar.subi c7_i32_473 v514
  let v519 : BitVec 32 := Scalar.muli c4_i32_474 v518
  let c3_i32 : BitVec 32 := 3#32
  let v27 : BitVec 32 := Scalar.subi c3_i32 v24
  let v520 : BitVec 32 := Scalar.addi v519 v27
  let v521 : BitVec 32 := Scalar.select v515 v517 v520
  let c1_i32_475 : BitVec 32 := 1#32
  let v522 : BitVec 32 := Scalar.xori v521 c1_i32_475
  let c256_i32_481 : BitVec 32 := 256#32
  let v528 : BitVec 32 := Scalar.muli v522 c256_i32_481
  let v529 : Index := Scalar.indexCast v528
  let c0_482 : Index := 0#32
  ![v529.toNat, 0]
def k0_dev23 (d0 : Dev nD) : Nat :=
  let c0_i32_498 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c2_i32_9 : BitVec 32 := 2#32
  let v25 : BitVec 1 := Scalar.cmpi .sge v20 c2_i32_9
  let c1_i32_10 : BitVec 32 := 1#32
  let c0_i32_11 : BitVec 32 := 0#32
  let v26 : BitVec 32 := Scalar.select v25 c1_i32_10 c0_i32_11
  let c0_i32_12 : BitVec 32 := 0#32
  let v28 : BitVec 1 := Scalar.cmpi .eq v26 c0_i32_12
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c7_i32 : BitVec 32 := 7#32
  let v29 : BitVec 32 := Scalar.subi c7_i32 v19
  let v30 : BitVec 32 := Scalar.select v28 v19 v29
  let c1_i32_13 : BitVec 32 := 1#32
  let v31 : BitVec 32 := Scalar.addi v30 c1_i32_13
  let c16_i32_14 : BitVec 32 := 16#32
  let v32 : BitVec 32 := Scalar.addi v31 c16_i32_14
  let c8_i32 : BitVec 32 := 8#32
  let v33 : BitVec 32 := Scalar.remsi v32 c8_i32
  let c4_i32_15 : BitVec 32 := 4#32
  let v34 : BitVec 1 := Scalar.cmpi .slt v33 c4_i32_15
  let c4_i32_16 : BitVec 32 := 4#32
  let v35 : BitVec 32 := Scalar.muli c4_i32_16 v33
  let c1_i32_6 : BitVec 32 := 1#32
  let v21 : BitVec 1 := Scalar.cmpi .eq v20 c1_i32_6
  let c2_i32 : BitVec 32 := 2#32
  let v22 : BitVec 1 := Scalar.cmpi .eq v20 c2_i32
  let v23 : BitVec 1 := Scalar.ori v21 v22
  let c1_i32_7 : BitVec 32 := 1#32
  let c0_i32_8 : BitVec 32 := 0#32
  let v24 : BitVec 32 := Scalar.select v23 c1_i32_7 c0_i32_8
  let v36 : BitVec 32 := Scalar.addi v35 v24
  let c4_i32_18 : BitVec 32 := 4#32
  let c7_i32_17 : BitVec 32 := 7#32
  let v37 : BitVec 32 := Scalar.subi c7_i32_17 v33
  let v38 : BitVec 32 := Scalar.muli c4_i32_18 v37
  let c3_i32 : BitVec 32 := 3#32
  let v27 : BitVec 32 := Scalar.subi c3_i32 v24
  let v39 : BitVec 32 := Scalar.addi v38 v27
  let v40 : BitVec 32 := Scalar.select v34 v36 v39
  let c1_i32_497 : BitVec 32 := 1#32
  let v539 : BitVec 32 := Scalar.muli v40 c1_i32_497
  let v540 : BitVec 32 := Scalar.addi c0_i32_498 v539
  v540.toNat
def k0_dev24 (d0 : Dev nD) : Nat :=
  let c0_i32_612 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c2_i32_9 : BitVec 32 := 2#32
  let v25 : BitVec 1 := Scalar.cmpi .sge v20 c2_i32_9
  let c1_i32_10 : BitVec 32 := 1#32
  let c0_i32_11 : BitVec 32 := 0#32
  let v26 : BitVec 32 := Scalar.select v25 c1_i32_10 c0_i32_11
  let c0_i32_12 : BitVec 32 := 0#32
  let v28 : BitVec 1 := Scalar.cmpi .eq v26 c0_i32_12
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c7_i32 : BitVec 32 := 7#32
  let v29 : BitVec 32 := Scalar.subi c7_i32 v19
  let v30 : BitVec 32 := Scalar.select v28 v19 v29
  let c1_i32_19 : BitVec 32 := 1#32
  let v41 : BitVec 32 := Scalar.subi v30 c1_i32_19
  let c16_i32_20 : BitVec 32 := 16#32
  let v42 : BitVec 32 := Scalar.addi v41 c16_i32_20
  let c8_i32_21 : BitVec 32 := 8#32
  let v43 : BitVec 32 := Scalar.remsi v42 c8_i32_21
  let c4_i32_22 : BitVec 32 := 4#32
  let v44 : BitVec 1 := Scalar.cmpi .slt v43 c4_i32_22
  let c4_i32_23 : BitVec 32 := 4#32
  let v45 : BitVec 32 := Scalar.muli c4_i32_23 v43
  let c1_i32_6 : BitVec 32 := 1#32
  let v21 : BitVec 1 := Scalar.cmpi .eq v20 c1_i32_6
  let c2_i32 : BitVec 32 := 2#32
  let v22 : BitVec 1 := Scalar.cmpi .eq v20 c2_i32
  let v23 : BitVec 1 := Scalar.ori v21 v22
  let c1_i32_7 : BitVec 32 := 1#32
  let c0_i32_8 : BitVec 32 := 0#32
  let v24 : BitVec 32 := Scalar.select v23 c1_i32_7 c0_i32_8
  let v46 : BitVec 32 := Scalar.addi v45 v24
  let c4_i32_25 : BitVec 32 := 4#32
  let c7_i32_24 : BitVec 32 := 7#32
  let v47 : BitVec 32 := Scalar.subi c7_i32_24 v43
  let v48 : BitVec 32 := Scalar.muli c4_i32_25 v47
  let c3_i32 : BitVec 32 := 3#32
  let v27 : BitVec 32 := Scalar.subi c3_i32 v24
  let v49 : BitVec 32 := Scalar.addi v48 v27
  let v50 : BitVec 32 := Scalar.select v44 v46 v49
  let c1_i32_611 : BitVec 32 := 1#32
  let v653 : BitVec 32 := Scalar.muli v50 c1_i32_611
  let v654 : BitVec 32 := Scalar.addi c0_i32_612 v653
  v654.toNat
abbrev stage0_0 : Fin 1 → Memref sig .tc .vmem S256x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩

abbrev nBuf : Space → Nat
  | .hbm => 5
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x8192, .bf16⟩
  | .hbm, ⟨2, _⟩ => ⟨S4096x8192, .f32⟩
  | .hbm, ⟨3, _⟩ => ⟨S4096x8192, .bf16⟩
  | .hbm, ⟨4, _⟩ => ⟨S4096x8192, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.Mesh.lean ====
/-
# The sixteen devices as two rings of eight, and the twenty-one transfers

A device is a ring position `pos c` (0 to 7, followed along the snake through a 4 by 4 torus) and one of two sides
`side c`; the kernel calls the device at the same position on the other side its mate. Slot `k` of a device's scratch
buffer ends up holding the block of `x` of the device `org k c`, which lies `shift k` positions further along the ring,
on the other side where `cross k` is true. The twenty-one remote copies are numbered in program order; copy `t` reads
slot `src t`, writes slot `dst t` of the device `nb (dir t) c`, and moves the rows that `half t` says
(0: all 256, 1: the first 128, 2: the last 128).
-/
module

public import proofs.«01_k».proof.Proof.Gen.KernelIdeal
public import proofs.«01_k».proof.Proof.Gen.KernelIdeal.Skeleton

@[expose] public section

namespace Cert.Gather

open Cert.KernelIdeal Cert.KernelIdeal.Gen
open Idealize.ShloMosaic

/-! ## Devices -/

/-- The ring position of a device. -/
def pos (c : Dev nD) : ℕ := if c.val % 4 < 2 then c.val / 4 else 7 - c.val / 4
/-- Whether the device lies on the inner side of its row. -/
def side (c : Dev nD) : Bool := c.val % 4 == 1 || c.val % 4 == 2
/-- The device at a ring position (read modulo 8) and side. -/
def at_ (j : ℕ) (s : Bool) : Dev nD :=
  if j % 8 < 4 then ⟨(4 * (j % 8) + s.toNat) % 16, Nat.mod_lt _ (by decide)⟩
  else ⟨(4 * (7 - j % 8) + 3 - s.toNat) % 16, Nat.mod_lt _ (by decide)⟩

/-- How far along the ring the owner of slot `k`'s block lies. -/
def shift (k : Fin 16) : ℕ := ([0, 0, 7, 6, 5, 5, 4, 4, 1, 2, 3, 3, 7, 1, 6, 2] : List ℕ).getD k.val 0
/-- Whether that owner is on the other side. -/
def cross (k : Fin 16) : Bool := k = 1 || k = 5 || k = 7 || 11 ≤ k.val
/-- The device whose block of `x` slot `k` of device `c` receives. -/
def org (k : Fin 16) (c : Dev nD) : Dev nD := at_ (pos c + shift k) (side c ^^ cross k)

/-- The three neighbours a device talks to: the next on its ring, the one before, the mate. -/
def nb (e : Fin 3) (c : Dev nD) : Dev nD := match e with
  | 0 => org 8 c
  | 1 => org 2 c
  | 2 => org 1 c
/-- The direction a neighbour sees the device from. -/
def opp : Fin 3 → Fin 3 := ![1, 0, 2]

/-- The opposite of the opposite direction, and there and back. -/
theorem opp_opp : ∀ e, opp (opp e) = e := by decide
theorem nb_opp : ∀ e c, nb (opp e) (nb e c) = c := by decide +kernel
theorem nb_opp' : ∀ e c, nb e (nb (opp e) c) = c := by decide +kernel
/-- Slot 0 holds the device's own block. -/
theorem org_zero : ∀ c, org 0 c = c := by decide +kernel

/-- Direction `e` as a permutation of the devices. -/
def nbEquiv (e : Fin 3) : Dev nD ≃ Dev nD := ⟨nb e, nb (opp e), nb_opp e, nb_opp' e⟩

/-- Every device's block is in some slot. -/
theorem org_surj : ∀ c d : Dev nD, ∃ k, org k c = d := by decide +kernel

/-! ## Transfers -/

/-- A transfer's number, in program order. -/
abbrev Tr : Type := Fin 21

/-- The slot a transfer reads, -/
def src (t : Tr) : Fin 16 := ![0, 0, 0, 2, 2, 8, 3, 3, 3, 9, 9, 9, 8, 14, 4, 14, 10, 15, 15, 5, 11] t
/-- the slot it writes, -/
def dst (t : Tr) : Fin 16 := ![1, 2, 8, 3, 12, 9, 4, 14, 14, 10, 15, 15, 13, 5, 6, 5, 6, 11, 11, 7, 7] t
/-- which rows, -/
def half (t : Tr) : Fin 3 := ![0, 0, 0, 0, 0, 0, 0, 1, 2, 0, 1, 2, 0, 1, 1, 2, 2, 1, 2, 1, 2] t
/-- and which neighbour it goes to. -/
def dir (t : Tr) : Fin 3 := ![2, 0, 1, 0, 2, 1, 0, 2, 2, 1, 2, 2, 2, 0, 0, 0, 1, 1, 1, 0, 1] t
/-- The device transfer `t` of `c` writes to. -/
abbrev tgt (t : Tr) (c : Dev nD) : Dev nD := nb (dir t) c
/-- The device that writes transfer `t` to `c`. -/
abbrev frm (t : Tr) (c : Dev nD) : Dev nD := nb (opp (dir t)) c

/-- The receiver of what one receives is oneself, -/
theorem tgt_frm (t : Tr) (c : Dev nD) : tgt t (frm t c) = c := nb_opp' _ _
/-- and so is the sender of what one sends. -/
theorem frm_tgt (t : Tr) (c : Dev nD) : frm t (tgt t c) = c := nb_opp _ _

/-- A copied block keeps its owner: what the source slot holds by owner is what the target's slot should. -/
theorem org_dst : ∀ (t : Tr) (c : Dev nD), org (dst t) (tgt t c) = org (src t) c := by decide +kernel

/-- The transfer the kernel waits for at its `i`-th receive wait. -/
def ord (i : Tr) : Tr := ![0, 1, 2, 3, 5, 7, 6, 8, 9, 4, 10, 11, 13, 15, 16, 14, 12, 17, 18, 19, 20] i
/-- Every arrival is waited for once. -/
theorem ord_inj : Function.Injective ord := by decide
theorem ord_bij : Function.Bijective ord := Finite.injective_iff_bijective.mp ord_inj

/-- No two transfers land on a common row of a common slot, and none lands in slot 0; -/
theorem dst_ne_zero : ∀ t, dst t ≠ 0 := by decide
theorem dst_apart : ∀ t t' : Tr, t ≠ t' → dst t ≠ dst t' ∨ (half t = 1 ∧ half t' = 2) ∨ (half t = 2 ∧ half t' = 1) := by decide
/-- and every other slot is written, whole or by halves. -/
theorem dst_cover : ∀ k : Fin 16, k = 0 ∨ (∃ t, dst t = k ∧ half t = 0) ∨ ((∃ t, dst t = k ∧ half t = 1) ∧ ∃ t, dst t = k ∧ half t = 2) := by
  decide

/-! ## The printed device and offset words -/

/-- The devices the kernel signals, and sends each copy to. -/
theorem dev_sig0 : ∀ c, (⟨k0_dev1 c, k0_dev1_lt c⟩ : Dev nD) = nb 0 c := by decide +kernel
theorem dev_sig1 : ∀ c, (⟨k0_dev2 c, k0_dev2_lt c⟩ : Dev nD) = nb 1 c := by decide +kernel
theorem dev_sig2 : ∀ c, (⟨k0_dev3 c, k0_dev3_lt c⟩ : Dev nD) = nb 2 c := by decide +kernel
theorem dev_0 : ∀ c, (⟨k0_dev4 c, k0_dev4_lt c⟩ : Dev nD) = tgt 0 c := by decide +kernel
theorem dev_1 : ∀ c, (⟨k0_dev5 c, k0_dev5_lt c⟩ : Dev nD) = tgt 1 c := by decide +kernel
theorem dev_2 : ∀ c, (⟨k0_dev6 c, k0_dev6_lt c⟩ : Dev nD) = tgt 2 c := by decide +kernel
theorem dev_3 : ∀ c, (⟨k0_dev7 c, k0_dev7_lt c⟩ : Dev nD) = tgt 3 c := by decide +kernel
theorem dev_4 : ∀ c, (⟨k0_dev8 c, k0_dev8_lt c⟩ : Dev nD) = tgt 4 c := by decide +kernel
theorem dev_5 : ∀ c, (⟨k0_dev9 c, k0_dev9_lt c⟩ : Dev nD) = tgt 5 c := by decide +kernel
theorem dev_6 : ∀ c, (⟨k0_dev10 c, k0_dev10_lt c⟩ : Dev nD) = tgt 6 c := by decide +kernel
theorem dev_7 : ∀ c, (⟨k0_dev11 c, k0_dev11_lt c⟩ : Dev nD) = tgt 7 c := by decide +kernel
theorem dev_8 : ∀ c, (⟨k0_dev12 c, k0_dev12_lt c⟩ : Dev nD) = tgt 8 c := by decide +kernel
theorem dev_9 : ∀ c, (⟨k0_dev13 c, k0_dev13_lt c⟩ : Dev nD) = tgt 9 c := by decide +kernel
theorem dev_10 : ∀ c, (⟨k0_dev14 c, k0_dev14_lt c⟩ : Dev nD) = tgt 10 c := by decide +kernel
theorem dev_11 : ∀ c, (⟨k0_dev15 c, k0_dev15_lt c⟩ : Dev nD) = tgt 11 c := by decide +kernel
theorem dev_12 : ∀ c, (⟨k0_dev16 c, k0_dev16_lt c⟩ : Dev nD) = tgt 12 c := by decide +kernel
theorem dev_13 : ∀ c, (⟨k0_dev17 c, k0_dev17_lt c⟩ : Dev nD) = tgt 13 c := by decide +kernel
theorem dev_14 : ∀ c, (⟨k0_dev18 c, k0_dev18_lt c⟩ : Dev nD) = tgt 14 c := by decide +kernel
theorem dev_15 : ∀ c, (⟨k0_dev19 c, k0_dev19_lt c⟩ : Dev nD) = tgt 15 c := by decide +kernel
theorem dev_16 : ∀ c, (⟨k0_dev20 c, k0_dev20_lt c⟩ : Dev nD) = tgt 16 c := by decide +kernel
theorem dev_17 : ∀ c, (⟨k0_dev21 c, k0_dev21_lt c⟩ : Dev nD) = tgt 17 c := by decide +kernel
theorem dev_18 : ∀ c, (⟨k0_dev22 c, k0_dev22_lt c⟩ : Dev nD) = tgt 18 c := by decide +kernel
theorem dev_19 : ∀ c, (⟨k0_dev23 c, k0_dev23_lt c⟩ : Dev nD) = tgt 19 c := by decide +kernel
theorem dev_20 : ∀ c, (⟨k0_dev24 c, k0_dev24_lt c⟩ : Dev nD) = tgt 20 c := by decide +kernel

/-- Where the product with the block of device `d` goes in the output: from row `256 d`, column 0. -/
def rowOff (d : Dev nD) : Fin 2 → ℕ := ![256 * d.val, 0]

/-- The printed offset of each product is its block's owner's. -/
theorem off_0 : ∀ c, k0_off1 c = rowOff (org 0 c) := by decide +kernel
theorem off_1 : ∀ c, k0_off2 c = rowOff (org 1 c) := by decide +kernel
theorem off_2 : ∀ c, k0_off3 c 1#32 = rowOff (org 2 c) := by decide +kernel
theorem off_3 : ∀ c, k0_off3 c 2#32 = rowOff (org 3 c) := by decide +kernel
theorem off_4 : ∀ c, k0_off3 c 3#32 = rowOff (org 4 c) := by decide +kernel
theorem off_5 : ∀ c, k0_off5 c 3#32 = rowOff (org 5 c) := by decide +kernel
theorem off_6 : ∀ c, k0_off4 c 4#32 = rowOff (org 6 c) := by decide +kernel
theorem off_7 : ∀ c, k0_off6 c 4#32 = rowOff (org 7 c) := by decide +kernel
theorem off_8 : ∀ c, k0_off4 c 1#32 = rowOff (org 8 c) := by decide +kernel
theorem off_9 : ∀ c, k0_off4 c 2#32 = rowOff (org 9 c) := by decide +kernel
theorem off_10 : ∀ c, k0_off4 c 3#32 = rowOff (org 10 c) := by decide +kernel
theorem off_11 : ∀ c, k0_off6 c 3#32 = rowOff (org 11 c) := by decide +kernel
theorem off_12 : ∀ c, k0_off5 c 1#32 = rowOff (org 12 c) := by decide +kernel
theorem off_13 : ∀ c, k0_off6 c 1#32 = rowOff (org 13 c) := by decide +kernel
theorem off_14 : ∀ c, k0_off5 c 2#32 = rowOff (org 14 c) := by decide +kernel
theorem off_15 : ∀ c, k0_off6 c 2#32 = rowOff (org 15 c) := by decide +kernel

end Cert.Gather
-- ==== Proof.Blocks.lean ====
/-
# The scratch buffer's blocks

A device's scratch buffer is sixteen slots of 256 rows. The remote copies move a slot, or half of one: the rectangle
`blk k o n` is the `n` rows of slot `k` from row `o` on, and `pc k h` names the same elements by slot and half. `comm c`
is what device `c`'s whole scratch buffer holds when every copy has landed: in slot `k` the block of `x` of the device
`org k c`. A copy of a block of `comm c` to the target's slot is a block of the target's `comm` (`landing`).
-/
module

public import proofs.«01_k».proof.Proof.Mesh
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.ValueLayout
public import Idealize.ShloMosaic.Lib.Exec.Geometry
public import Idealize.ShloMosaic.Lib.Tactic

@[expose] public section

noncomputable section

namespace Cert.Gather

open Cert.KernelIdeal Cert.KernelIdeal.Gen
open Idealize.ShloMosaic Idealize.ShloMosaic.TcCoe Idealize.ShloMosaic.ValueIdx

variable {F : FTy → Type} [FloatOps F]
variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-- Device `c`'s block of `x`, as its staging buffer holds it. -/
def xstg (c : Dev nD) : (cc0_stg0_0 : Ref sig .tc).ty.Contents (Elt F) :=
  (win0_0.blk (0 : Fin 1)).view.read (Elt F) ((s₀ m ρ).mem ((c : Thread nD τ).loc main_arg0))
/-- Device `c`'s columns of the weights, as its staging buffer holds them. -/
def wstg (c : Dev nD) : (cc0_stg1_0 : Ref sig .tc).ty.Contents (Elt F) :=
  (win0_1.blk (0 : Fin 1)).view.read (Elt F) ((s₀ m ρ).mem ((c : Thread nD τ).loc main_arg1))

/-- The scratch contents after every copy has landed: slot `k` holds the block of `org k c`. -/
def comm (c : Dev nD) : (cc0_scratch0 : Ref sig .tc).ty.Contents (Elt F) :=
  fun i : S16x256x4096.Idx => xstg m ρ (org (i 0) c) (ix2 (i 1) (i 2) : S256x4096.Idx)

/-! ## The rectangles -/

/-- The whole scratch buffer. -/
abbrev aM : Memref sig .tc .vmem S16x256x4096 .bf16 := Memref.whole cc0_scratch0

/-- The rows `o` to `o + n` of slot `k`. -/
abbrev blk (k o n : ℕ) (inb : ∀ a, (![k, o, 0] : Fin 3 → ℕ) a + (⟨3, ![1, n, 4096]⟩ : Shape).size a ≤ S16x256x4096.size a)
    (hq : (⟨3, ![1, n, 4096]⟩ : Shape).Squeezes ⟨2, ![n, 4096]⟩) : Memref sig .tc .vmem ⟨2, ![n, 4096]⟩ .bf16 :=
  (aM.slice (Rect.unit (s := S16x256x4096) ![k, o, 0] (⟨3, ![1, n, 4096]⟩ : Shape).size inb) (fun _ => rfl)).squeeze ⟨2, ![n, 4096]⟩ hq

/-- The first row and the number of rows of half `h` (0: the whole slot). -/
def lo (h : Fin 3) : ℕ := ![0, 0, 128] h
/-- How many rows a half has: 256 (both), 128, 128. -/
def rows (h : Fin 3) : ℕ := ![256, 128, 128] h

/-- The elements of half `h` of slot `k`. -/
def pc (k : Fin 16) (h : Fin 3) : Finset S16x256x4096.Idx :=
  Finset.univ.filter fun i => (i 0).val = k.val ∧ lo h ≤ (i 1).val ∧ (i 1).val < lo h + rows h

/-- The elements of a piece: those of the slot, from its first row on. -/
theorem mem_pc {k : Fin 16} {h : Fin 3} {i : S16x256x4096.Idx} :
    i ∈ pc k h ↔ (i 0).val = k.val ∧ lo h ≤ (i 1).val ∧ (i 1).val < lo h + rows h := by
  rw [pc, Finset.mem_filter]; exact and_iff_right (Finset.mem_univ _)

/-- A rectangle's elements are a piece. -/
theorem set_rect (k : Fin 16) (h : Fin 3) {k' o n : ℕ} (hk : k' = k.val) (ho : o = lo h) (hn : n = rows h)
    (inb : ∀ a, (![k', o, 0] : Fin 3 → ℕ) a + (⟨3, ![1, n, 4096]⟩ : Shape).size a ≤ S16x256x4096.size a) :
    (Rect.unit (s := S16x256x4096) ![k', o, 0] (⟨3, ![1, n, 4096]⟩ : Shape).size inb).set = pc k h := by
  subst hk ho hn
  ext i
  rw [Rect.mem_set_unit, mem_pc]
  constructor
  · intro H
    have h0 := H 0; have h1 := H 1
    dsimp at h0 h1
    exact ⟨by omega, h1.1, h1.2⟩
  · rintro ⟨h0, h1, h2⟩ a
    have h3 : (i 2).val < 4096 := (i 2).isLt
    fin_cases a
    · dsimp; omega
    · exact ⟨h1, h2⟩
    · dsimp; omega

/-- A printed view of a slot's rows covers the piece of its numbers. -/
theorem set_blk (k : Fin 16) (h : Fin 3) {k' o n : ℕ} (hk : k' = k.val) (ho : o = lo h) (hn : n = rows h) (inb) (hq) :
    (blk k' o n inb hq).view.set = pc k h := by
  exact (View.set_reshape _ _).trans ((View.set_slice_whole cc0_scratch0 _).trans (set_rect k h hk ho hn inb))

/-- The slots are apart, and so are the two halves of one. -/
theorem pc_disjoint {k k' : Fin 16} {h h' : Fin 3} (H : k ≠ k' ∨ (h = 1 ∧ h' = 2) ∨ (h = 2 ∧ h' = 1)) : Disjoint (pc k h) (pc k' h') := by
  rw [Finset.disjoint_left]
  intro i hi hi'
  rw [mem_pc] at hi hi'
  rcases H with H | ⟨rfl, rfl⟩ | ⟨rfl, rfl⟩
  · exact H (Fin.ext (hi.1.symm.trans hi'.1))
  · have := hi.2.2; have := hi'.2.1; simp [lo, rows] at *; omega
  · have := hi.2.1; have := hi'.2.2; simp [lo, rows] at *; omega

/-- A slot is its two halves. -/
theorem pc_halves (k : Fin 16) : pc k 0 = pc k 1 ∪ pc k 2 := by
  ext i
  have h1 : (i 1).val < 256 := (i 1).isLt
  rw [Finset.mem_union, mem_pc, mem_pc, mem_pc]
  simp [lo, rows]; omega

/-- The scratch buffer is its sixteen slots. -/
theorem pc_univ : (Finset.univ : Finset S16x256x4096.Idx) = Finset.univ.biUnion fun k : Fin 16 => pc k 0 := by
  ext i
  have h1 : (i 1).val < 256 := (i 1).isLt
  simp only [Finset.mem_univ, Finset.mem_biUnion, true_and, true_iff]
  exact ⟨i 0, mem_pc.mpr ⟨rfl, Nat.zero_le _, h1⟩⟩

/-- Where the element `y` of a block sits in the scratch buffer. -/
theorem emb_blk (k o n : ℕ) (inb) (hq) (y : (⟨2, ![n, 4096]⟩ : Shape).Idx) :
    ∃ z : (⟨3, ![1, n, 4096]⟩ : Shape).Idx, z = Shape.reshapeEquiv hq.numel_eq y ∧
      (((blk k o n inb hq).view.emb y : S16x256x4096.Idx) 0).val = k ∧ (((blk k o n inb hq).view.emb y : S16x256x4096.Idx) 1).val = o + (z 1).val
        ∧ (((blk k o n inb hq).view.emb y : S16x256x4096.Idx) 2).val = (z 2).val := by
  refine ⟨_, rfl, ?_, ?_, ?_⟩
  · show k + 1 * ((Shape.reshapeEquiv hq.numel_eq y : (⟨3, ![1, n, 4096]⟩ : Shape).Idx) 0).val = k
    have : ((Shape.reshapeEquiv hq.numel_eq y : (⟨3, ![1, n, 4096]⟩ : Shape).Idx) 0).val < 1 := Fin.isLt _
    omega
  · show o + 1 * ((Shape.reshapeEquiv hq.numel_eq y : (⟨3, ![1, n, 4096]⟩ : Shape).Idx) 1).val = _
    omega
  · show 0 + 1 * ((Shape.reshapeEquiv hq.numel_eq y : (⟨3, ![1, n, 4096]⟩ : Shape).Idx) 2).val = _
    omega

/-- The copy of a block of `comm c` into the slot of `c'` that is to hold the same owner's block is what `comm c'` has
    there. -/
theorem landing (c c' : Dev nD) (k k' : Fin 16) (horg : org k' c' = org k c) {o n : ℕ} (inb inb') (hq)
    (fd : (cc0_scratch0 : Ref sig .tc).ty.Contents (Elt F)) :
    ∀ i ∈ (blk k'.val o n inb' hq).view.set,
      (blk k'.val o n inb' hq).view.write (Elt F) fd ((blk k.val o n inb hq).view.read (Elt F) (comm m ρ c)) Finset.univ i = comm m ρ c' i := by
  intro i hi
  obtain ⟨y, -, rfl⟩ := Finset.mem_map.mp hi
  rw [View.write_emb_of_mem _ _ (Finset.mem_univ _)]
  show comm m ρ c ((blk k.val o n inb hq).view.emb y) = comm m ρ c' ((blk k'.val o n inb' hq).view.emb y)
  obtain ⟨z, hz, a0, a1, a2⟩ := emb_blk k.val o n inb hq y
  obtain ⟨z', hz', b0, b1, b2⟩ := emb_blk k'.val o n inb' hq y
  obtain rfl : z = z' := hz.trans hz'.symm
  generalize ((blk k.val o n inb hq).view.emb y : S16x256x4096.Idx) = p at a0 a1 a2 ⊢
  generalize ((blk k'.val o n inb' hq).view.emb y : S16x256x4096.Idx) = q at b0 b1 b2 ⊢
  have e0 : p 0 = k := Fin.ext a0
  have e0' : q 0 = k' := Fin.ext b0
  have e1 : p 1 = q 1 := Fin.ext (a1.trans b1.symm)
  have e2 : p 2 = q 2 := Fin.ext (a2.trans b2.symm)
  show xstg m ρ (org (p 0) c) (ix2 (p 1) (p 2) : S256x4096.Idx) = xstg m ρ (org (q 0) c') (ix2 (q 1) (q 2) : S256x4096.Idx)
  rw [e0, e0', e1, e2, horg]

end Cert.Gather
-- ==== Proof.Schedule.lean ====
/-
# What each semaphore hands over

Every device has a barrier semaphore, which its three neighbours raise once each, and two semaphores for each of the
twenty-one transfers: one at the sender, one at the receiver. All are used for one round. A neighbour's barrier unit
hands over the pieces of its own scratch buffer that the waiting device is to write; a transfer's receive semaphore hands
over the written piece, and its send semaphore returns the share of the piece that was read. The levels order the waits:
the barrier below every receive semaphore, and those in the transfers' program order.
-/
module

public import proofs.«01_k».proof.Proof.Blocks
public import Idealize.ShloMosaic.Lib.Ring

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The contracts' resource: the pipeline's own, and one round protocol with three duties a cell at most. -/
abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## The semaphores -/

/-- The send semaphore of a transfer and its receive semaphore, among the kernel's forty-two. -/
def ssem (t : Tr) : DmaSem sig :=
  (![31, 3, 17, 4, 32, 18, 5, 33, 34, 19, 35, 36, 37, 6, 8, 7, 20, 21, 22, 9, 23] : Fin 21 → Fin 45) t
def rsem (t : Tr) : DmaSem sig :=
  (![38, 10, 24, 11, 39, 25, 12, 40, 41, 26, 42, 43, 44, 13, 15, 14, 27, 28, 29, 16, 30] : Fin 21 → Fin 45) t

/-- A device's cells: the barrier, and the send (false) and receive (true) cell of each transfer. -/
abbrev Cx : Type := Option (Bool × Tr)

abbrev barS : Sem sig := (SemArray.scalar (sig.barrier 0 rfl) : Sems sig S_).sem

def csem : Cx → SemLoc sig
  | none => .reg barS
  | some (false, t) => .dma (ssem t)
  | some (true, t) => .dma (rsem t)

/-- Which of them a semaphore is, if any. -/
def dcls (q : DmaSem sig) : Cx :=
  (![none, none, none,
    some (false, 1), some (false, 3), some (false, 6), some (false, 13), some (false, 15), some (false, 14), some (false, 19),
    some (true, 1), some (true, 3), some (true, 6), some (true, 13), some (true, 15), some (true, 14), some (true, 19),
    some (false, 2), some (false, 5), some (false, 9), some (false, 16), some (false, 17), some (false, 18), some (false, 20),
    some (true, 2), some (true, 5), some (true, 9), some (true, 16), some (true, 17), some (true, 18), some (true, 20),
    some (false, 0), some (false, 4), some (false, 7), some (false, 8), some (false, 10), some (false, 11), some (false, 12),
    some (true, 0), some (true, 4), some (true, 7), some (true, 8), some (true, 10), some (true, 11), some (true, 12)]
    : Fin 45 → Option (Bool × Tr)) q
def cls : SemLoc sig → Option Cx
  | .reg s => if s = barS then some none else none
  | .dma q => (dcls q).map some

/-- Classifying a cell's semaphore gives the cell back. -/
theorem cls_csem (x : Cx) : cls (csem x) = some x := by
  revert x; decide +kernel
/-- Different cells have different semaphores. -/
theorem csem_inj : Function.Injective csem := fun x y h => by
  have := congrArg cls h; rw [cls_csem, cls_csem] at this; exact Option.some.inj this

abbrev kcell (x : Dev nD × Cx) : GSem nD τ sig := ((x.1 : Thread nD τ), csem x.2)
abbrev bar (c : Dev nD) : GSem nD τ sig := ((c : Thread nD τ), .reg barS)
abbrev snd (t : Tr) (c : Dev nD) : GSem nD τ sig := ((c : Thread nD τ), .dma (ssem t))
abbrev rcv (t : Tr) (c : Dev nD) : GSem nD τ sig := ((c : Thread nD τ), .dma (rsem t))

/-- So have different devices' cells. -/
theorem kcell_inj : Function.Injective kcell := fun x y h => by
  obtain ⟨a, b⟩ := x; obtain ⟨a', b'⟩ := y
  have h1 : a = a' := congrArg (fun g : GSem nD τ sig => g.1.1) h
  have h2 : b = b' := csem_inj (congrArg (fun g : GSem nD τ sig => g.2) h)
  rw [h1, h2]

/-! ## Amounts and pieces -/

/-- What a whole slot's copy credits, and what a half's does. -/
abbrev Nw : ℕ := (blk 0 0 256 inb_S16x256x4096_S1x256x4096_0_0_0 squeezes_S1x256x4096_S256x4096).view.dmaCredit
abbrev Nh : ℕ := (blk 3 0 128 inb_S16x256x4096_S1x128x4096_3_0_0 squeezes_S1x128x4096_S128x4096).view.dmaCredit
theorem Nw_pos : 0 < Nw := View.dmaCredit_pos _ (by decide)
theorem Nh_pos : 0 < Nh := View.dmaCredit_pos _ (by decide)
/-- What a transfer credits. -/
def N (t : Tr) : ℕ := if half t = 0 then Nw else Nh
theorem N_pos (t : Tr) : 0 < N t := by unfold N; split; exacts [Nw_pos, Nh_pos]

/-- The share of its source piece a transfer borrows. -/
def lsh (t : Tr) : PosShare TreeShare :=
  (![fullShare.left, fullShare.right.left, fullShare.right.right.left, fullShare.left, fullShare.right.left, fullShare.left,
    fullShare.left, fullShare.right.left, fullShare.right.left, fullShare.left, fullShare.right.left, fullShare.right.left,
    fullShare.right.left, fullShare.left, fullShare.left, fullShare.left, fullShare.left, fullShare.left, fullShare.left,
    fullShare.left, fullShare.left] : Fin 21 → PosShare TreeShare) t

/-- Half `h` of slot `k` of device `c`'s scratch buffer, at a share, with the contents `f`. -/
def pts (c : Dev nD) (k : Fin 16) (h : Fin 3) (q : PosShare TreeShare) (f : (cc0_scratch0 : Ref sig .tc).ty.Contents (Elt F)) : sProp 𝕄 :=
  ((c : Thread nD τ).loc cc0_scratch0) ↦[pc k h]{q} f
/-- The same with unknown contents, in full: what a writer needs. -/
def raw (c : Dev nD) (t : Tr) : sProp 𝕄 := iprop(∃ f, pts c (dst t) (half t) fullShare f)
/-- What transfer `t` of device `c` borrows. -/
def lend (c : Dev nD) (t : Tr) : sProp 𝕄 := pts c (src t) (half t) (lsh t) (comm m ρ c)
/-- What transfer `t` brings to device `c`. -/
def got (c : Dev nD) (t : Tr) : sProp 𝕄 := pts c (dst t) (half t) fullShare (comm m ρ c)
/-- What device `c` is handed by its neighbour in direction `e` at the barrier. -/
def room (c : Dev nD) (e : Fin 3) : sProp 𝕄 := bigSep (Finset.univ.filter fun t => dir t = e) fun t => raw (tgt t c) t

instance pts_storable (c : Dev nD) (k h q f) : BI.Storable (upEmb : UEmb _ 𝕄) (pts (F := F) c k h q f) := by unfold pts; infer_instance
instance raw_storable (c : Dev nD) (t) : BI.Storable (upEmb : UEmb _ 𝕄) (raw (F := F) c t) := by unfold raw; infer_instance
instance lend_storable (c : Dev nD) (t) : BI.Storable (upEmb : UEmb _ 𝕄) (lend m ρ c t) := by unfold lend; infer_instance
instance got_storable (c : Dev nD) (t) : BI.Storable (upEmb : UEmb _ 𝕄) (got m ρ c t) := by unfold got; infer_instance
instance room_storable (c : Dev nD) (e) : BI.Storable (upEmb : UEmb _ 𝕄) (room (F := F) c e) := by unfold room; infer_instance

/-- The transfers sorted by direction. -/
theorem by_dir (Φ : Tr → sProp 𝕄) : bigSep Finset.univ Φ = bigSep Finset.univ fun e => bigSep (Finset.univ.filter fun t => dir t = e) Φ := by
  rw [bigSep_fiberwise Finset.univ dir Φ, show Finset.univ.image dir = Finset.univ from by decide]

/-! ## The schedule -/

/-- What duty `e` of cell `x` of device `c` hands over. -/
def pay (c : Dev nD) (x : Cx) (e : Fin 3) : sProp 𝕄 := match x with
  | none => room c e
  | some (false, t) => lend m ρ c t
  | some (true, t) => got m ρ c t

instance pay_storable (c : Dev nD) (x e) : BI.Storable (upEmb : UEmb _ 𝕄) (pay m ρ c x e) := by
  unfold pay; split <;> infer_instance

/-- Which duties a cell has: three at the barrier, one elsewhere. -/
def dutiesOf : Cx → Finset (Fin 3)
  | none => Finset.univ
  | some _ => {0}
/-- How much one duty pays. -/
def amtOf : Cx → ℕ
  | none => 1
  | some (_, t) => N t

/-- Every duty pays something. -/
theorem amtOf_pos (x : Cx) : 0 < amtOf x := by
  rcases x with _ | ⟨b, t⟩
  · exact Nat.one_pos
  · exact N_pos t

/-- The schedule: one round at every cell. -/
def Rd : Rounds.Schedule (GSem nD τ sig) (Fin 3) 𝕄 where
  duties g r := if r = 0 ∧ g.1.2 = .tc then (match cls g.2 with | some x => dutiesOf x | none => ∅) else ∅
  amount g _ _ := match cls g.2 with | some x => amtOf x | none => 1
  payload g _ e := match cls g.2 with | some x => pay m ρ g.1.1 x e | none => iprop(emp)
  amount_pos g _ _ _ := by
    split
    · exact amtOf_pos _
    · exact Nat.one_pos

instance Rd_payload_storable (g : GSem nD τ sig) (r : ℕ) (d : Fin 3) : BI.Storable (upEmb : UEmb _ 𝕄) ((Rd m ρ).payload g r d) := by
  show BI.Storable upEmb (match cls g.2 with | some x => pay m ρ g.1.1 x d | none => iprop(emp))
  split <;> infer_instance

/-- The schedule at a cell: its duties, their amounts, what they hand over. -/
theorem duties_cell (x : Dev nD × Cx) : (Rd m ρ).duties (kcell x) 0 = dutiesOf x.2 := by
  dsimp only [Rd]; rw [if_pos ⟨rfl, rfl⟩, cls_csem]
theorem amount_cell (x : Dev nD × Cx) (d) : (Rd m ρ).amount (kcell x) 0 d = amtOf x.2 := by dsimp only [Rd]; rw [cls_csem]
theorem payload_cell (x : Dev nD × Cx) (d) : (Rd m ρ).payload (kcell x) 0 d = pay m ρ x.1 x.2 d := by dsimp only [Rd]; rw [cls_csem]
/-- There is no second round. -/
theorem duties_later (g : GSem nD τ sig) : ∀ r, 1 ≤ r → (Rd m ρ).duties g r = ∅ :=
  fun r hr => by dsimp only [Rd]; rw [if_neg fun h => by omega]

/-- The same at each kind of cell. -/
theorem duties_bar (c : Dev nD) : (Rd m ρ).duties (bar c) 0 = Finset.univ := duties_cell m ρ (c, none)
theorem duties_snd (c : Dev nD) (t : Tr) : (Rd m ρ).duties (snd t c) 0 = {0} := duties_cell m ρ (c, some (false, t))
theorem duties_rcv (c : Dev nD) (t : Tr) : (Rd m ρ).duties (rcv t c) 0 = {0} := duties_cell m ρ (c, some (true, t))
theorem amount_bar (c : Dev nD) (d) : (Rd m ρ).amount (bar c) 0 d = 1 := amount_cell m ρ (c, none) d
theorem amount_snd (c : Dev nD) (t : Tr) (d) : (Rd m ρ).amount (snd t c) 0 d = N t := amount_cell m ρ (c, some (false, t)) d
theorem amount_rcv (c : Dev nD) (t : Tr) (d) : (Rd m ρ).amount (rcv t c) 0 d = N t := amount_cell m ρ (c, some (true, t)) d
theorem payload_bar (c : Dev nD) (d) : (Rd m ρ).payload (bar c) 0 d = room c d := payload_cell m ρ (c, none) d
theorem payload_snd (c : Dev nD) (t : Tr) (d) : (Rd m ρ).payload (snd t c) 0 d = lend m ρ c t := payload_cell m ρ (c, some (false, t)) d
theorem payload_rcv (c : Dev nD) (t : Tr) (d) : (Rd m ρ).payload (rcv t c) 0 d = got m ρ c t := payload_cell m ρ (c, some (true, t)) d

/-- What a wait for a whole round takes: three units at a barrier, a transfer's credit elsewhere. -/
theorem expect_bar (c : Dev nD) : (Rd m ρ).expect (bar c) 0 = 3 := by
  unfold Schedule.expect Schedule.amountOf
  rw [duties_bar, Finset.sum_congr rfl fun d _ => amount_bar m ρ c d]
  rfl
theorem expect_snd (c : Dev nD) (t : Tr) : (Rd m ρ).expect (snd t c) 0 = N t := by
  unfold Schedule.expect Schedule.amountOf; rw [duties_snd, Finset.sum_singleton, amount_snd]
theorem expect_rcv (c : Dev nD) (t : Tr) : (Rd m ρ).expect (rcv t c) 0 = N t := by
  unfold Schedule.expect Schedule.amountOf; rw [duties_rcv, Finset.sum_singleton, amount_rcv]

/-- What a round hands over: at a send cell the borrowed share, -/
theorem rest_snd (c : Dev nD) (t : Tr) :
    bigSep ((Rd m ρ).duties (snd t c) 0 \ ∅) (fun d => (Rd m ρ).payload (snd t c) 0 d) = lend m ρ c t := by
  rw [Finset.sdiff_empty, duties_snd, bigSep_singleton, payload_snd]
/-- and at a receive cell the landed piece. -/
theorem rest_rcv (c : Dev nD) (t : Tr) :
    bigSep ((Rd m ρ).duties (rcv t c) 0 \ ∅) (fun d => (Rd m ρ).payload (rcv t c) 0 d) = got m ρ c t := by
  rw [Finset.sdiff_empty, duties_rcv, bigSep_singleton, payload_rcv]
/-- The three neighbours' units together hand over every piece the device is to write. -/
theorem rest_bar (c : Dev nD) :
    bigSep ((Rd m ρ).duties (bar c) 0 \ ∅) (fun d => (Rd m ρ).payload (bar c) 0 d) = bigSep Finset.univ fun t => raw (F := F) (tgt t c) t := by
  rw [Finset.sdiff_empty, duties_bar, bigSep_congr fun d _ => payload_bar m ρ c d]
  show bigSep Finset.univ (fun e => bigSep (Finset.univ.filter fun t => dir t = e) fun t => raw (F := F) (tgt t c) t) = _
  exact (by_dir fun t => raw (F := F) (tgt t c) t).symm

/-! ## What a device owes; the levels -/

/-- What device `c` still owes when transfers from `n` on are to be issued: their credit at the receivers. -/
def Ow (c : Dev nD) (n : ℕ) : CellTallies nD τ sig Unit := ∑ t ∈ Ring.rangeSet 21 n 21, tallyAt (rcv t (tgt t c)) () (N t)
/-- What it owes at launch: those, and a unit to each neighbour's barrier. -/
def O₂ (c : Dev nD) : CellTallies nD τ sig Unit := Ow c 0 + tallyAt (bar (nb 2 c)) () 1
/-- The same with the unit to the neighbour before, -/
def O₁ (c : Dev nD) : CellTallies nD τ sig Unit := O₂ c + tallyAt (bar (nb 1 c)) () 1
/-- and with the unit to the next neighbour. -/
def O₀ (c : Dev nD) : CellTallies nD τ sig Unit := O₁ c + tallyAt (bar (nb 0 c)) () 1

/-- Issuing a copy pays its part; -/
theorem Ow_succ (c : Dev nD) (t : Tr) : Ow c t.val = Ow c (t.val + 1) + tallyAt (rcv t (tgt t c)) () (N t) := by
  unfold Ow
  rw [Ring.rangeSet_head t.isLt t.isLt, Finset.sum_insert (Ring.head_not_mem_rangeSet t.isLt), add_comm]
/-- after the last nothing is owed. -/
theorem Ow_end (c : Dev nD) : Ow c 21 = 0 := by
  unfold Ow; rw [Ring.rangeSet_empty le_rfl]; rfl

/-- Every cell of a device has a level. -/
def L (g : GSem nD τ sig) : Finset Unit := if g.1.2 = .tc then {()} else ∅
/-- The levels: the barrier at 1, the receive semaphores above it in the transfers' order, the rest at 0. -/
def lvx : Option Cx → ℕ
  | some none => 1
  | some (some (true, t)) => t.val + 2
  | _ => 0
/-- The level of a semaphore. -/
def lv (g : GSem nD τ sig) (_ : Unit) : ℕ := lvx (cls g.2)

/-- Where there is a level, and which it is. -/
theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (bar c) u = 1 := by
  show lvx (cls (csem none)) = 1; rw [cls_csem]; rfl
theorem lv_rcv (c : Dev nD) (t : Tr) (u : Unit) : lv (rcv t c) u = t.val + 2 := by
  show lvx (cls (csem (some (true, t)))) = _; rw [cls_csem]; rfl

/-- What is owed is owed to the receivers of copies still to be issued; -/
theorem Ow_pos {c : Dev nD} {n : ℕ} {g : GSem nD τ sig} {u : Unit} (h : 0 < Ow c n g u) : ∃ t : Tr, n ≤ t.val ∧ g = rcv t (tgt t c) := by
  by_contra hn
  refine absurd h (Nat.not_lt.mpr (Nat.le_of_eq ?_))
  unfold Ow
  rw [Finset.sum_apply, Finsupp.finset_sum_apply]
  refine Finset.sum_eq_zero fun t ht => ?_
  rw [tallyAt_apply, if_neg]
  exact fun h' => hn ⟨t, ((Ring.mem_rangeSet _ _ _).mp ht).1, h'.1⟩

/-- at launch, to those or to a neighbour's barrier. -/
theorem O₀_pos {c : Dev nD} {g : GSem nD τ sig} {u : Unit} (h : 0 < O₀ c g u) :
    (∃ t : Tr, g = rcv t (tgt t c)) ∨ ∃ e, g = bar (nb e c) := by
  unfold O₀ O₁ O₂ at h
  rw [Pi.add_apply, Finsupp.add_apply, Pi.add_apply, Finsupp.add_apply, Pi.add_apply, Finsupp.add_apply, tallyAt_apply, tallyAt_apply, tallyAt_apply] at h
  by_contra hn
  rw [not_or] at hn
  rw [if_neg (fun h' => hn.2 ⟨_, h'.1⟩), if_neg (fun h' => hn.2 ⟨_, h'.1⟩), if_neg (fun h' => hn.2 ⟨_, h'.1⟩)] at h
  obtain ⟨t, -, ht⟩ := Ow_pos (c := c) (n := 0) (g := g) (u := u) (by omega)
  exact hn.1 ⟨t, ht⟩

/-- A device may wait at a semaphore whose level is below every transfer it still owes. -/
theorem mayWait_Ow (c : Dev nD) (n : ℕ) (sm : SemLoc sig) (h : lvx (cls sm) < n + 2) :
    (levAts L lv : sProp 𝕄) ⊢ MayWait (c : Thread nD τ) sm () (Ow c n) := by
  refine MayOwe.of_cut (L := L) (lev := lv) (lvx (cls sm)) (fun p hp => by rw [Finset.mem_singleton.mp hp, L_tc]; exact Finset.mem_singleton_self _)
    (fun g u hg => by obtain ⟨t, -, rfl⟩ := Ow_pos hg; exact Finset.mem_singleton_self _)
    (fun p hp => by rw [Finset.mem_singleton.mp hp]; exact le_rfl)
    (fun g u hg => by obtain ⟨t, ht, rfl⟩ := Ow_pos hg; rw [lv_rcv]; omega)

/-- The staging copies' waits come before everything. -/
theorem mayWait_stage (c : Dev nD) (q : DmaSem sig) (hq : lvx (cls (.dma q)) = 0) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨t, rfl⟩ | ⟨e, rfl⟩ <;> exact Finset.mem_singleton_self _)
      (fun p hp => by rw [Finset.mem_singleton.mp hp]; exact hq.le)
      (fun g u hg => by
        rcases O₀_pos hg with ⟨t, rfl⟩ | ⟨e, rfl⟩
        · rw [lv_rcv]; exact Nat.succ_pos _
        · rw [lv_bar]; exact Nat.one_pos)
  · rw [MayWait_zero]; iintro -; iempintro

end Cert.Gather
-- ==== Proof.Steps.lean ====
/-
# One transfer's steps

`Led c n r` is the bookkeeping of device `c` when it has issued the first `n` transfers and done the first `r` receive
waits: what it may still send, what it has sent, what it is still to receive. Issuing a transfer hands over the borrowed
share of its source piece (`send_step`); a receive wait brings the landed piece (`recv_step`). `Ret c s` is the
bookkeeping of the last phase, when `s` send waits are done: each returns a borrowed share (`back_step`).
-/
module

public import proofs.«01_k».proof.Proof.Schedule

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (rangeSet bigSep_rangeSet_head bigSep_rangeSet_last bigSep_rangeSet_empty rangeSet_univ)

variable {F : FTy → Type} [FloatOps F]

local notation "𝕄" => MT nD τ sig Unit (Elt F) ℕ UU ℕ

abbrev 𝒱₀ : Variants := Variants.none

variable (m : (ℓ : Loc nD τ sig) → Buf (Elt F) ℓ) (ρ : Dev nD → PrngReg) (K : Dev nD × Cx → ℕ)

/-! ## The bookkeeping -/

/-- Every cell's invariant, and that it has reached its round. -/
def recs : sProp 𝕄 := bigSep Finset.univ fun x : Dev nD × Cx => iprop(cellInv ER (Rd m ρ) (K x) (kcell x) ∗ reached ER (kcell x) 0)

/-- The record may be used any number of times. -/
instance recs_persistent : BI.Persistent (recs m ρ K) := by unfold recs; infer_instance

/-- The record of one cell. -/
theorem recs_at (x : Dev nD × Cx) : recs m ρ K ⊢ iprop(cellInv ER (Rd m ρ) (K x) (kcell x) ∗ reached ER (kcell x) 0) := by
  unfold recs; exact bigSep_elim (Finset.mem_univ x)

/-- The record of a barrier, -/
theorem recs_bar (c : Dev nD) : recs m ρ K ⊢ iprop(cellInv ER (Rd m ρ) (K (c, none)) (bar c) ∗ reached ER (bar c) 0) := recs_at m ρ K (c, none)
/-- of a send semaphore, -/
theorem recs_snd (c : Dev nD) (t : Tr) : recs m ρ K ⊢ iprop(cellInv ER (Rd m ρ) (K (c, some (false, t))) (snd t c) ∗ reached ER (snd t c) 0) :=
  recs_at m ρ K (c, some (false, t))
/-- and of a receive semaphore. -/
theorem recs_rcv (c : Dev nD) (t : Tr) : recs m ρ K ⊢ iprop(cellInv ER (Rd m ρ) (K (c, some (true, t))) (rcv t c) ∗ reached ER (rcv t c) 0) :=
  recs_at m ρ K (c, some (true, t))

/-- The two tokens a transfer is issued with. -/
def toks (c : Dev nD) (t : Tr) : sProp 𝕄 := iprop(dutyTok ER (snd t c) 0 0 ∗ dutyTok ER (rcv t (tgt t c)) 0 0)
/-- The owner's position at a receive cell, and the credit it waits against. -/
def exp (c : Dev nD) (t : Tr) : sProp 𝕄 := iprop(atPos ER (rcv t c) 0 ∅ 0 ∗ cred (tallyAt (rcv t c) () (N t)))

/-- What device `c` owes, whatever it waits for. -/
def owing (c : Dev nD) (O : CellTallies nD τ sig Unit) : sProp 𝕄 := iprop(∃ W, owes (c : Thread nD τ) O W)

/-- The bookkeeping after `n` copies issued and `r` receive waits done. -/
def Led (c : Dev nD) (n r : ℕ) : sProp 𝕄 :=
  iprop(recs m ρ K ∗ levAts L lv ∗ owing c (Ow c n)
    ∗ bigSep (rangeSet 21 n 21) (fun t => iprop(toks c t ∗ raw (tgt t c) t))
    ∗ bigSep (rangeSet 21 0 n) (fun t => cred (tallyAt (snd t c) () (N t)))
    ∗ bigSep (rangeSet 21 r 21) (fun i => exp c (ord i))
    ∗ bigSep (rangeSet 21 0 r) (fun i => semVal (rcv (ord i) c) 0))

/-- The bookkeeping after `s` send waits done. -/
def Ret (c : Dev nD) (s : ℕ) : sProp 𝕄 :=
  iprop(recs m ρ K ∗ owing c 0
    ∗ bigSep (rangeSet 21 s 21) (fun t => iprop(cred (tallyAt (snd t c) () (N t)) ∗ atPos ER (snd t c) 0 ∅ 0))
    ∗ bigSep (rangeSet 21 0 s) (fun t => iprop(semVal (snd t c) 0 ∗ lend m ρ c t)))

/-- The next of the transfers still to come. -/
theorem take_head (n : Tr) (Φ : Tr → sProp 𝕄) : bigSep (rangeSet 21 n.val 21) Φ ⊢ iprop(Φ n ∗ bigSep (rangeSet 21 (n.val + 1) 21) Φ) :=
  Entails.of_eq (bigSep_rangeSet_head n.isLt n.isLt)
/-- One more of the transfers done. -/
theorem put_last (n : Tr) (Φ : Tr → sProp 𝕄) : iprop(Φ n ∗ bigSep (rangeSet 21 0 n.val) Φ) ⊢ bigSep (rangeSet 21 0 (n.val + 1)) Φ :=
  Entails.of_eq (bigSep_rangeSet_last (Φ := Φ) (lo := 0) (hi := n.val + 1) (Nat.succ_pos _) n.isLt).symm

/-! ## Issuing a transfer -/

set_option maxHeartbeats 800000 in
theorem send_step (c n : Dev nD) (t : Tr) (hn : n = tgt t c) (i j r : ℕ) (hi : i = t.val) (hj : j = t.val + 1)
    (k k' o w : ℕ) (hk : k = (src t).val) (hk' : k' = (dst t).val) (ho : o = lo (half t)) (hw : w = rows (half t))
    (inb inb') (hq) (ss rs : DmaSem sig) (hss : ss = ssem t) (hrs : rs = rsem t) (hN : (blk k' o w inb' hq).view.dmaCredit = N t)
    {hsc : (blk k' o w inb' hq : Memref sig (Dev.tc n : Thread nD τ).2.kind .vmem _ .bf16).view.ref.isScScratch = false}
    {hsrc : (blk k o w inb hq).view.WordExact} {hdst : (blk k' o w inb' hq).view.WordExact}
    {hsem : DmaTarget.Typed .vmem (.dma rs) (.remote (Dev.tc n : Thread nD τ) (blk k' o w inb' hq) (.dma ss) hsc)}
    {α : Type} {Q : α → sProp 𝕄} {κ : PUnit → Prog (TpuEff nD τ sig (Elt F) Λ₀ .tc) α} :
    iprop(Led m ρ K c i r ∗ lend m ρ c t)
      ⊢ iprop((Led m ρ K c j r -∗ wp frame (wpE (defs₀ (F := F)) 𝒱₀ (c : Thread nD τ) none) Set.univ (κ ⟨⟩) Q)
          -∗ wp frame (wpE (defs₀ (F := F)) 𝒱₀ (c : Thread nD τ) none) Set.univ
              (.op (.enqueueDma (blk k o w inb hq) (.remote (Dev.tc n : Thread nD τ) (blk k' o w inb' hq) (.dma ss) hsc) (.dma rs) hsrc hdst hsem) κ) Q) := by
  subst hn hi hj hk hk' hss hrs
  unfold Led owing raw toks
  iintro ⟨⟨#HR, #Hlv, ⟨%W, HO⟩, Hto, Hs, Hr, Hd⟩, Hl⟩ Hk
  ihave ⟨⟨⟨Hts, Htr⟩, ⟨%fd, Hraw⟩⟩, Hto⟩ := (take_head t _) $$ Hto
  ihave ⟨#HI1, #Hr1⟩ := (recs_snd m ρ K c t) $$ HR
  ihave ⟨#HI2, #Hr2⟩ := (recs_rcv m ρ K (tgt t c) t) $$ HR
  have es := set_blk (src t) (half t) rfl ho hw inb hq
  have ed := set_blk (dst t) (half t) rfl ho hw inb' hq
  iapply (Rounds.wp_send_pointsTo 𝒱₀ ER (Rd m ρ) (c : Thread nD τ) none (κ₁ := K (c, some (false, t))) (κ₂ := K (tgt t c, some (true, t)))
    (r₁ := 0) (r₂ := 0) (d₁ := 0) (d₂ := 0) (fd := fd) (q := lsh t) (fs := comm m ρ c) (hsrc := hsrc) (hdst := hdst)
    (by rw [duties_snd]; exact Finset.mem_singleton_self _) (by rw [duties_rcv]; exact Finset.mem_singleton_self _)
    () () (N t) (by exact hN) (amount_snd m ρ c t 0) (amount_rcv m ρ (tgt t c) t 0) (Ow c (t.val + 1)) (Ow_succ c t) (W := W)
    (by rw [payload_snd]; unfold lend pts; rw [es])
    (by
      rw [payload_rcv, pointsTo_congr (landing m ρ c (tgt t c) (src t) (dst t) (org_dst t c) inb inb' hq fd)]
      unfold got pts; rw [ed]))
    $$ [HO Hts Htr Hraw Hl]
  · isplitr; · iexact HI1
    isplitr; · iexact HI2
    isplitl [Hl]
    · unfold lend pts; rw [← es]; iexact Hl
    isplitl [Hraw]
    · unfold pts; rw [← ed]; iexact Hraw
    isplitl [HO]; · iexact HO
    isplitl [Hts]; · iexact Hts
    isplitr; · iexact Hr1
    isplitl [Htr]; · iexact Htr
    iexact Hr2
  iintro ⟨Hc, HO⟩
  iapply Hk
  isplitr; · iexact HR
  isplitr; · iexact Hlv
  isplitl [HO]; · iexists W; iexact HO
  isplitl [Hto]; · iexact Hto
  isplitl [Hs Hc]
  · iapply (put_last t fun t => cred (tallyAt (snd t c) () (N t)))
    isplitl [Hc] <;> iassumption
  isplitl [Hr] <;> iassumption

/-! ## Waiting for one -/

/-- Waiting for the `r`-th arrival, transfer `t`, which was issued before those still to be issued. -/
theorem recv_step (c : Dev nD) (t p : Tr) (hp : t = ord p) (n r r' : ℕ) (hr : r = p.val) (hr' : r' = p.val + 1) (hlt : t.val < n)
    (sem : DmaSem sig) (hsem : sem = rsem t) {sp sp' : Space} {s s' : Shape} {e e' : EltTy} (m₁ : Memref sig .tc sp s e) (m₂ : Memref sig .tc sp' s' e')
    (hN : m₂.view.dmaCredit = N t) {h1 : m₁.view.WordExact} {h2 : m₂.view.WordExact}
    {α : Type} {Q : α → sProp 𝕄} {κ : PUnit → Prog (TpuEff nD τ sig (Elt F) Λ₀ .tc) α} :
    Led m ρ K c n r
      ⊢ iprop(((Led m ρ K c n r' ∗ got m ρ c t) -∗ wp frame (wpE (defs₀ (F := F)) 𝒱₀ (c : Thread nD τ) none) Set.univ (κ ⟨⟩) Q)
          -∗ wp frame (wpE (defs₀ (F := F)) 𝒱₀ (c : Thread nD τ) none) Set.univ (.op (.waitDma2 sem m₁ m₂ h1 h2) κ) Q) := by
  subst hp hr hr' hsem
  unfold Led owing exp
  iintro ⟨#HR, #Hlv, ⟨%W, HO⟩, Hto, Hs, Hr, Hd⟩ Hk
  ihave ⟨⟨Hat, Hc⟩, Hr⟩ := (take_head p _) $$ Hr
  ihave ⟨#HI, -⟩ := (recs_rcv m ρ K c (ord p)) $$ HR
  iapply (Rounds.wp_wait_rest_token 𝒱₀ ER (Rd m ρ) (c : Thread nD τ) none (κ := K (c, some (true, ord p)))
      (wpE_waitDma2_eq 𝒱₀ (c : Thread nD τ) none Set.univ) (Set.mem_univ _) () (O := Ow c n) (W := W) (R := 0) (m := 0) (T := ∅)
      (by rw [Nat.zero_add]; exact hN.trans (expect_rcv m ρ c (ord p)).symm)) $$ [Hc HO Hat]
  · isplitr; · iexact HI
    isplitl [Hc]; · rw [hN]; iexact Hc
    isplitl [HO]; · iexact HO
    isplitr
    · iapply (mayWait_Ow c n (.dma (rsem (ord p))) (by
        rw [show cls (.dma (rsem (ord p))) = some (some (true, ord p)) from cls_csem (some (true, ord p))]; show _ + 2 < _; omega))
      iexact Hlv
    iexact Hat
  iintro ⟨HO, Hat, -, Hpay⟩
  ihave Hgot := (Entails.of_eq (rest_rcv m ρ c (ord p))) $$ Hpay
  imod (Rounds.cell_close ER (Rd m ρ) (Set.mem_univ (K (c, some (true, ord p)))) (fun h => h) (R := 0 + 1) (duties_later m ρ (rcv (ord p) c))) $$ [Hat] with Hz
  · isplitr; · iexact HI
    iexact Hat
  iapply Hk
  isplitr [Hgot]
  · isplitr; · iexact HR
    isplitr; · iexact Hlv
    isplitl [HO]; · iexists _; iexact HO
    isplitl [Hto]; · iexact Hto
    isplitl [Hs]; · iexact Hs
    isplitl [Hr]; · iexact Hr
    iapply (put_last p fun i => semVal (rcv (ord i) c) 0)
    isplitl [Hz] <;> iassumption
  · iexact Hgot

/-- Waiting until transfer `t` has been read. -/
theorem back_step (c : Dev nD) (t : Tr) (i j : ℕ) (hi : i = t.val) (hj : j = t.val + 1)
    (sem : DmaSem sig) (hsem : sem = ssem t) {sp sp' : Space} {s s' : Shape} {e e' : EltTy} (m₁ : Memref sig .tc sp s e) (m₂ : Memref sig .tc sp' s' e')
    (hN : m₂.view.dmaCredit = N t) {h1 : m₁.view.WordExact} {h2 : m₂.view.WordExact}
    {α : Type} {Q : α → sProp 𝕄} {κ : PUnit → Prog (TpuEff nD τ sig (Elt F) Λ₀ .tc) α} :
    Ret m ρ K c i
      ⊢ iprop((Ret m ρ K c j -∗ wp frame (wpE (defs₀ (F := F)) 𝒱₀ (c : Thread nD τ) none) Set.univ (κ ⟨⟩) Q)
          -∗ wp frame (wpE (defs₀ (F := F)) 𝒱₀ (c : Thread nD τ) none) Set.univ (.op (.waitDma2 sem m₁ m₂ h1 h2) κ) Q) := by
  subst hi hj hsem
  unfold Ret owing
  iintro ⟨#HR, ⟨%W, HO⟩, Hs, Hd⟩ Hk
  ihave ⟨⟨Hc, Hat⟩, Hs⟩ := (take_head t _) $$ Hs
  ihave ⟨#HI, -⟩ := (recs_snd m ρ K c t) $$ HR
  iapply (Rounds.wp_wait_rest_token 𝒱₀ ER (Rd m ρ) (c : Thread nD τ) none (κ := K (c, some (false, t)))
      (wpE_waitDma2_eq 𝒱₀ (c : Thread nD τ) none Set.univ) (Set.mem_univ _) () (O := 0) (W := W) (R := 0) (m := 0) (T := ∅)
      (by rw [Nat.zero_add]; exact hN.trans (expect_snd m ρ c t).symm)) $$ [Hc HO Hat]
  · isplitr; · iexact HI
    isplitl [Hc]; · rw [hN]; iexact Hc
    isplitl [HO]; · iexact HO
    isplitr; · rw [MayWait_zero]; iempintro
    iexact Hat
  iintro ⟨HO, Hat, -, Hpay⟩
  ihave Hl := (Entails.of_eq (rest_snd m ρ c t)) $$ Hpay
  imod (Rounds.cell_close ER (Rd m ρ) (Set.mem_univ (K (c, some (false, t)))) (fun h => h) (R := 0 + 1) (duties_later m ρ (snd t c))) $$ [Hat] with Hz
  · isplitr; · iexact HI
    iexact Hat
  iapply Hk
  isplitr; · iexact HR
  isplitl [HO]; · iexists _; iexact HO
  isplitl [Hs]; · iexact Hs
  iapply (put_last t fun t => iprop(semVal (snd t c) 0 ∗ lend m ρ c t))
  isplitl [Hz Hl]
  · isplitl [Hz] <;> iassumption
  · iexact Hd

end Cert.Gather
-- ==== Proof.Gemm.lean ====
/-
# The products

After slot `k` of the scratch buffer has arrived the kernel multiplies it by the device's columns of the weights and
stores the product at the rows of the output that belong to the block's owner. `outAt c` is the output with every such
product in place; `Gem c j` is the state after the first `j` products in program order: the output agrees with `outAt c`
on the rows of those owners. The share of a slot that no transfer borrows is `held c k`.
-/
module

public import proofs.«01_k».proof.Proof.Steps

@[expose] public section

noncomputable section

namespace Cert.Gather

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Ring (rangeSet bigSep_rangeSet_head bigSep_rangeSet_last bigSep_rangeSet_empty rangeSet_univ)

variable {F : FTy → Type} [FloatOps F]

local notation "𝕄" => MT nD τ sig Unit (Elt F) ℕ UU ℕ

variable (m : (ℓ : Loc nD τ sig) → Buf (Elt F) ℓ) (ρ : Dev nD → PrngReg)

/-! ## Contents -/

/-- Device `d`'s block of `x` as one slot of a scratch buffer. -/
def slab (d : Dev nD) : Vec F S1x256x4096 .bf16 := fun z : S1x256x4096.Idx => xstg m ρ d (ix2 (z 1) (z 2) : S256x4096.Idx)

/-- The owner of a row of the output. -/
def rdev (i : S4096x512.Idx) : Dev nD := ⟨(i 0).val / 256, by
  have : (i 0).val < 4096 := (i 0).isLt
  show _ < 16; omega⟩

/-- The whole output of device `c`. -/
def outAt (c : Dev nD) : (cc0_stg2_0 : Ref sig .tc).ty.Contents (Elt F) :=
  fun i : S4096x512.Idx => k0_pay2 (slab m ρ (rdev i)) (wstg m ρ c) (ix2 ⟨(i 0).val % 256, Nat.mod_lt _ (by decide)⟩ (i 1) : S256x512.Idx)

/-- The order of the products. -/
def gord (p : Fin 16) : Fin 16 := (![0, 1, 2, 8, 3, 9, 4, 14, 10, 12, 15, 5, 6, 13, 11, 7] : Fin 16 → Fin 16) p
/-- Every slot has one product. -/
theorem gord_bij : Function.Bijective gord := Finite.injective_iff_bijective.mp (by decide)

/-- The products' order reaches every device's block. -/
theorem gord_surj (c d : Dev nD) : ∃ p : Fin 16, org (gord p) c = d := by
  obtain ⟨k, hk⟩ := org_surj c d
  obtain ⟨p, rfl⟩ := gord_bij.2 k
  exact ⟨p, hk⟩

/-- The zero offset. -/
theorem hz2 : (![0, 0] : Fin 2 → Nat) = fun _ => 0 := funext fun a => by fin_cases a <;> rfl

/-! ## Shares kept -/

/-- The share of a slot that its product keeps. -/
def ksh (k : Fin 16) : PosShare TreeShare :=
  (![fullShare.right.right.right, fullShare, fullShare.right.right, fullShare.right.right, fullShare.right, fullShare.right, fullShare, fullShare,
    fullShare.right.right, fullShare.right.right, fullShare.right, fullShare.right, fullShare, fullShare, fullShare.right, fullShare.right]
    : Fin 16 → PosShare TreeShare) k
/-- The slot at that share. -/
def keep (c : Dev nD) (k : Fin 16) : sProp 𝕄 := pts c k 0 (ksh k) (comm m ρ c)
/-- The half that is split from a slot's lent half and lent to no one. -/
def spare (c : Dev nD) (k : Fin 16) : sProp 𝕄 :=
  if k = 4 ∨ k = 5 then pts c k 2 fullShare.left (comm m ρ c)
  else if k = 10 ∨ k = 11 then pts c k 1 fullShare.left (comm m ρ c) else iprop(emp)
/-- What a product holds of its slot: the share it keeps, and what no copy borrows of the rest. -/
def held (c : Dev nD) (k : Fin 16) : sProp 𝕄 := iprop(keep m ρ c k ∗ spare m ρ c k)

/-- A product's state: the weights, the output after the first `j` products, and the slots they read. -/
def Gem (c : Dev nD) (j : ℕ) : sProp 𝕄 :=
  iprop((((c : Thread nD τ).loc cc0_stg1_0) ↦{fullShare} wstg m ρ c)
    ∗ (∃ f : (cc0_stg2_0 : Ref sig .tc).ty.Contents (Elt F),
        ⌜∀ i : S4096x512.Idx, (∃ p : Fin 16, p.val < j ∧ org (gord p) c = rdev i) → f i = outAt m ρ c i⌝ ∗ (((c : Thread nD τ).loc cc0_stg2_0) ↦{fullShare} f))
    ∗ bigSep (rangeSet 16 0 j) (fun p => held m ρ c (gord p)))

/-! ## The loads and stores -/

abbrev oM : Memref sig .tc .vmem S4096x512 .f32 := Memref.whole cc0_stg2_0
abbrev wM : Memref sig .tc .vmem S4096x512 .bf16 := Memref.whole cc0_stg1_0
abbrev xM : Memref sig .tc .vmem S256x4096 .bf16 := Memref.whole cc0_stg0_0

/-- A load of a slot reads the block of the slot's owner. -/
theorem read_slot (c : Dev nD) (k : Fin 16) (inb) :
    aM.view.readAt (Elt F) (Rect.unit (s := S16x256x4096) ![k.val, 0, 0] S1x256x4096.size inb).toLoadRect (comm m ρ c) = slab m ρ (org k c) := by
  funext z
  rw [View.readAt_apply]
  have hz0 : (z 0).val < 1 := (z 0).isLt
  let i : S16x256x4096.Idx := (Rect.unit (s := S16x256x4096) ![k.val, 0, 0] S1x256x4096.size inb).toLoadRect.idx z
  have e0 : i 0 = k := Fin.ext (by show k.val + 1 * (z 0).val = k.val; omega)
  have e1 : i 1 = (z 1 : Fin 256) := Fin.ext (by show 0 + 1 * (z 1).val = (z 1).val; omega)
  have e2 : i 2 = (z 2 : Fin 4096) := Fin.ext (by show 0 + 1 * (z 2).val = (z 2).val; omega)
  show xstg m ρ (org (i 0) c) (ix2 (i 1) (i 2) : S256x4096.Idx) = xstg m ρ (org k c) (ix2 (z 1) (z 2) : S256x4096.Idx)
  rw [e0, e1, e2]

/-- Loading a slot. -/
theorem ld_slot (c : Dev nD) (k : Fin 16) (k' : ℕ) (hk : k' = k.val) (inb) {hl}
    {α : Type} {Q : α → sProp 𝕄} {κ : Vec F S1x256x4096 .bf16 → Prog (TpuEff nD τ sig (Elt F) Λ₀ .tc) α} :
    held m ρ c k
      ⊢ iprop((held m ρ c k -∗ wp frame (wpE (defs₀ (F := F)) 𝒱₀ (c : Thread nD τ) none) Set.univ (κ (slab m ρ (org k c))) Q)
          -∗ wp frame (wpE (defs₀ (F := F)) 𝒱₀ (c : Thread nD τ) none) Set.univ
            (.op (.load aM (Rect.unit (s := S16x256x4096) ![k', 0, 0] S1x256x4096.size inb).toLoadRect hl) κ) Q) := by
  subst hk
  unfold held keep pts
  iintro ⟨H, Hs⟩ Hk
  iapply (wp_load 𝒱₀ (c : Thread nD τ) none Set.univ (m := aM) (S := pc k 0) (by
    rw [show aM.view.setOn _ = _ from Finset.map_refl]; exact (set_rect k 0 rfl rfl rfl inb).le)) $$ H
  iintro H
  rw [read_slot]
  iapply Hk
  isplitl [H] <;> iassumption

/-- Loading the weights. -/
theorem ld_w (c : Dev nD) (j : ℕ) (inb) {hl}
    {α : Type} {Q : α → sProp 𝕄} {κ : Vec F S4096x512 .bf16 → Prog (TpuEff nD τ sig (Elt F) Λ₀ .tc) α} :
    Gem m ρ c j
      ⊢ iprop((Gem m ρ c j -∗ wp frame (wpE (defs₀ (F := F)) 𝒱₀ (c : Thread nD τ) none) Set.univ (κ (wstg m ρ c)) Q)
          -∗ wp frame (wpE (defs₀ (F := F)) 𝒱₀ (c : Thread nD τ) none) Set.univ
            (.op (.load wM (Rect.unit (s := S4096x512) ![0, 0] S4096x512.size inb).toLoadRect hl) κ) Q) := by
  unfold Gem
  iintro ⟨H, Hs⟩ Hk
  iapply (wp_load 𝒱₀ (c : Thread nD τ) none Set.univ (m := wM) (Finset.subset_univ _)) $$ H
  iintro H
  rw [show wM.view.readAt (Elt F) (Rect.unit (s := S4096x512) ![0, 0] S4096x512.size inb).toLoadRect (wstg m ρ c) = wstg m ρ c from
    Memref.readAt_unit_zero (Elt F) cc0_stg1_0 hz2 _ _]
  iapply Hk
  isplitl [H] <;> iassumption

/-- Loading some of the output: its value is not used. -/
theorem ld_o (c : Dev nD) (j : ℕ) (r : LoadRect S4096x512) {hl}
    {α : Type} {Q : α → sProp 𝕄} {κ : (r.shape.Idx → Elt F .f32) → Prog (TpuEff nD τ sig (Elt F) Λ₀ .tc) α} :
    Gem m ρ c j
      ⊢ iprop((∀ v, Gem m ρ c j -∗ wp frame (wpE (defs₀ (F := F)) 𝒱₀ (c : Thread nD τ) none) Set.univ (κ v) Q)
          -∗ wp frame (wpE (defs₀ (F := F)) 𝒱₀ (c : Thread nD τ) none) Set.univ (.op (.load oM r hl) κ) Q) := by
  unfold Gem
  iintro ⟨H, ⟨%f, %hf, Ho⟩, Hs⟩ Hk
  iapply (wp_load 𝒱₀ (c : Thread nD τ) none Set.univ (m := oM) (Finset.subset_univ _)) $$ Ho
  iintro Ho
  iapply Hk
  isplitl [H]; · iexact H
  isplitl [Ho]
  · iexists f; isplitr; · (ipureintro; exact hf)
    iexact Ho
  iexact Hs

/-- What a product's store does to the output's contents. -/
theorem write_rows (c d : Dev nD) (inb) (f : (cc0_stg2_0 : Ref sig .tc).ty.Contents (Elt F)) (i : S4096x512.Idx) :
    (oM.access (Rect.unit (s := S4096x512) (rowOff d) S256x512.size inb)).write (Elt F) f (k0_pay2 (slab m ρ d) (wstg m ρ c)) Finset.univ i
      = if rdev i = d then outAt m ρ c i else f i := by
  by_cases h : rdev i = d
  · rw [if_pos h]
    have h0 : (i 0).val / 256 = d.val := congrArg Fin.val h
    let y : S256x512.Idx := ix2 ⟨(i 0).val % 256, Nat.mod_lt _ (by decide)⟩ (i 1)
    have hy : (oM.access (Rect.unit (s := S4096x512) (rowOff d) S256x512.size inb)).emb y = i := by
      refine funext fun a => Fin.ext ?_
      fin_cases a
      · show 256 * d.val + 1 * ((i 0).val % 256) = (i 0).val; omega
      · show 0 + 1 * (i 1).val = (i 1).val; omega
    conv_lhs => rw [← hy]
    rw [View.write_emb_of_mem _ _ (Finset.mem_univ _)]
    show k0_pay2 (slab m ρ d) (wstg m ρ c) y = outAt m ρ c i
    unfold outAt
    rw [h]
  · rw [if_neg h]
    refine View.write_of_not_mem _ _ _ fun hi => h ?_
    obtain ⟨y, -, rfl⟩ := Finset.mem_map.mp hi
    refine Fin.ext ?_
    have : (y 0).val < 256 := (y 0).isLt
    show (256 * d.val + 1 * (y 0).val) / 256 = d.val
    omega

/-- Storing the `j`-th product. -/
theorem st_o (c : Dev nD) (p : Fin 16) (k : Fin 16) (hk : k = gord p) (j j' : ℕ) (hj : j = p.val) (hj' : j' = p.val + 1)
    (off : Fin 2 → ℕ) (hoff : off = rowOff (org k c)) (inb) (P : FVec F S256x512 .f32) (hP : P = k0_pay2 (slab m ρ (org k c)) (wstg m ρ c))
    {hx} {hm} {α : Type} {Q : α → sProp 𝕄} {κ : PUnit → Prog (TpuEff nD τ sig (Elt F) Λ₀ .tc) α} :
    iprop(Gem m ρ c j ∗ held m ρ c k)
      ⊢ iprop((Gem m ρ c j' -∗ wp frame (wpE (defs₀ (F := F)) 𝒱₀ (c : Thread nD τ) none) Set.univ (κ ⟨⟩) Q)
          -∗ wp frame (wpE (defs₀ (F := F)) 𝒱₀ (c : Thread nD τ) none) Set.univ
            (.op (.store oM (Rect.unit (s := S4096x512) off S256x512.size inb) P Finset.univ hx hm) κ) Q) := by
  subst hk hj hj' hoff hP
  unfold Gem
  iintro ⟨⟨Hw, ⟨%f, %hf, Ho⟩, Hs⟩, Hh⟩ Hk
  iapply (wp_store 𝒱₀ (c : Thread nD τ) none Set.univ (m := oM)
    (r := Rect.unit (s := S4096x512) (rowOff (org (gord p) c)) S256x512.size inb) (Mk := Finset.univ) (Finset.subset_univ _)) $$ Ho
  iintro Ho
  iapply Hk
  isplitl [Hw]; · iexact Hw
  isplitl [Ho]
  · iexists _
    isplitr
    swap; · iexact Ho
    ipureintro
    intro i hi
    rw [write_rows]
    split
    · rfl
    · next hne =>
      obtain ⟨q, hq, hqo⟩ := hi
      refine hf i ⟨q, ?_, hqo⟩
      rcases Nat.lt_or_ge q.val p.val with h | h
      · exact h
      · have : q = p := Fin.ext (by omega)
        subst this; exact absurd hqo.symm hne
  · iapply (Entails.of_eq (bigSep_rangeSet_last (Φ := fun p => held m ρ c (gord p)) (lo := 0) (hi := p.val + 1) (Nat.succ_pos _) p.isLt).symm)
    isplitl [Hh]; · iexact Hh
    iexact Hs

/-- A whole product: load the slot, load the weights, load the old output (unused), store. -/
theorem prod_step (c : Dev nD) (p : Fin 16) (k : Fin 16) (k' : ℕ) (hk' : k' = k.val) (hk : k = gord p) (j j' : ℕ) (hj : j = p.val) (hj' : j' = p.val + 1)
    (off : Fin 2 → ℕ) (hoff : off = rowOff (org k c)) (pay : Vec F S1x256x4096 .bf16 → Vec F S4096x512 .bf16 → FVec F S256x512 .f32)
    (hpay : pay = k0_pay2) (inb₁) (inb₂) (inb₃) {hl₁} {hl₂} {hl₃} {hx} {hm} {α : Type} {Q : α → sProp 𝕄}
    {κ : PUnit → Prog (TpuEff nD τ sig (Elt F) Λ₀ .tc) α} :
    iprop(Gem m ρ c j ∗ held m ρ c k)
      ⊢ iprop((Gem m ρ c j' -∗ wp frame (wpE (defs₀ (F := F)) 𝒱₀ (c : Thread nD τ) none) Set.univ (κ ⟨⟩) Q)
          -∗ wp frame (wpE (defs₀ (F := F)) 𝒱₀ (c : Thread nD τ) none) Set.univ
            (.op (.load aM (Rect.unit (s := S16x256x4096) ![k', 0, 0] S1x256x4096.size inb₁).toLoadRect hl₁) fun v =>
              .op (.load wM (Rect.unit (s := S4096x512) ![0, 0] S4096x512.size inb₂).toLoadRect hl₂) fun w =>
              .op (.load oM (Rect.unit (s := S4096x512) off S256x512.size inb₃).toLoadRect hl₃) fun _ =>
              .op (.store oM (Rect.unit (s := S4096x512) off S256x512.size inb₃) (pay v w) Finset.univ hx hm) κ) Q) := by
  iintro ⟨HG, Hh⟩ Hk
  iapply (ld_slot m ρ c k k' hk' inb₁) $$ Hh
  iintro Hh
  iapply (ld_w m ρ c j inb₂) $$ HG
  iintro HG
  iapply (ld_o m ρ c j _) $$ HG
  iintro %v HG
  iapply (st_o m ρ c p k hk j j' hj hj' off hoff inb₃ (pay (slab m ρ (org k c)) (wstg m ρ c)) (by rw [hpay])) $$ [HG Hh]
  · isplitl [HG] <;> iassumption
  iexact Hk

/-! ## The device's own block -/

/-- Slot 0 after the device's own block is stored in it is what the full scratch contents have there. -/
theorem write_own (c : Dev nD) (inb) (f : (cc0_scratch0 : Ref sig .tc).ty.Contents (Elt F)) : ∀ i ∈ pc 0 0,
    (aM.access (Rect.unit (s := S16x256x4096) ![0, 0, 0] S1x256x4096.size inb)).write (Elt F) f (k0_pay1 (xstg m ρ c)) Finset.univ i = comm m ρ c i := by
  intro i hi
  rw [← set_rect 0 0 rfl rfl rfl inb, ← View.set_slice_whole cc0_scratch0] at hi
  obtain ⟨z, -, rfl⟩ := Finset.mem_map.mp hi
  refine (View.write_emb_of_mem (v := aM.access (Rect.unit (s := S16x256x4096) ![0, 0, 0] S1x256x4096.size inb)) _ _ (Finset.mem_univ _)).trans ?_
  have hz0 : (z 0).val < 1 := (z 0).isLt
  let i : S16x256x4096.Idx := (Rect.unit (s := S16x256x4096) ![0, 0, 0] S1x256x4096.size inb).toLoadRect.idx z
  have e0 : i 0 = (0 : Fin 16) := Fin.ext (by show 0 + 1 * (z 0).val = 0; omega)
  have e1 : i 1 = (z 1 : Fin 256) := Fin.ext (by show 0 + 1 * (z 1).val = (z 1).val; omega)
  have e2 : i 2 = (z 2 : Fin 4096) := Fin.ext (by show 0 + 1 * (z 2).val = (z 2).val; omega)
  show k0_pay1 (xstg m ρ c) z = xstg m ρ (org (i 0) c) (ix2 (i 1) (i 2) : S256x4096.Idx)
  rw [e0, e1, e2, org_zero]
  unfold k0_pay1
  rw [shapeCast_self]
  refine (shapeCast_addUnit_apply _ _ _ z).trans (congrArg (xstg m ρ c) ?_)
  funext a; fin_cases a <;> rfl

end Cert.Gather
-- ==== Proof.Shares.lean ====
/-
# How a slot is shared

The contents of a slot are read by the transfers that pass it on and by the product at the same time, so the slot is
cut into shares: `held c k` stays with the product and `lend c t` goes with transfer `t`. Every cut is an equality, so
one statement serves for cutting and for joining. `parts` joins everything at the end.
-/
module

public import proofs.«01_k».proof.Proof.Gemm

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ) (ρ : Dev nD → PrngReg)

/-- Two assertions that entail each other are equal. -/
theorem eqv {P Q : sProp 𝕄} (h : P ⊣⊢ Q) : P = Q := Entails.antisymm h.1 h.2

/-- The two ways to write a separating conjunction. -/
theorem sep_fold (P Q : sProp 𝕄) : Idealize.SL.BI.sep P Q = iprop(P ∗ Q) := rfl

local instance : Std.Associative (fun P Q : sProp 𝕄 => iprop(P ∗ Q)) := ⟨fun _ _ _ => eqv sep_assoc⟩
local instance : Std.Commutative (fun P Q : sProp 𝕄 => iprop(P ∗ Q)) := ⟨fun _ _ => eqv sep_comm⟩

/-- A piece at a share is the piece at each half of the share. -/
theorem pts_share (c : Dev nD) (k : Fin 16) (h : Fin 3) (q : PosShare TreeShare) (f) :
    (pts c k h q f : sProp 𝕄) = iprop(pts c k h q.left f ∗ pts c k h q.right f) :=
  eqv (pointsTo_share (PosShare.mem_left_op_right q))

/-- A slot is its two halves of rows. -/
theorem pts_halves (c : Dev nD) (k : Fin 16) (q : PosShare TreeShare) (f) :
    (pts c k 0 q f : sProp 𝕄) = iprop(pts c k 1 q f ∗ pts c k 2 q f) := by
  unfold pts
  rw [pc_halves]
  exact eqv (pointsTo_union (pc_disjoint (.inr (.inl ⟨rfl, rfl⟩))))

/-- A half of slot 14, 15 or 5 that waits for the other half. -/
def hk (c : Dev nD) (k : Fin 16) (h : Fin 3) : sProp 𝕄 := pts c k h fullShare.right (comm m ρ c)

/-- Where neither half of the rows is spare, a product holds just the share it keeps. -/
theorem held_plain (c : Dev nD) (k : Fin 16) (h : k ≠ 4 ∧ k ≠ 5 ∧ k ≠ 10 ∧ k ≠ 11) : held m ρ c k = pts c k 0 (ksh k) (comm m ρ c) := by
  unfold held spare keep
  rw [if_neg (by tauto), if_neg (by tauto)]
  exact eqv sep_emp

/-- A slot that holds its block is cut into what the product holds and what each copy borrows: slot 0, and then every slot at its arrival. -/
theorem cut_0 (c : Dev nD) : pts c 0 0 fullShare (comm m ρ c) = iprop(held m ρ c 0 ∗ lend m ρ c 0 ∗ lend m ρ c 1 ∗ lend m ρ c 2) := by
  rw [held_plain m ρ c 0 (by decide), pts_share, pts_share (q := fullShare.right), pts_share (q := fullShare.right.right)]
  show iprop(lend m ρ c 0 ∗ lend m ρ c 1 ∗ lend m ρ c 2 ∗ pts c 0 0 (ksh 0) (comm m ρ c)) = _
  ac_rfl
theorem cut_1 (c : Dev nD) : got m ρ c 0 = held m ρ c 1 := (held_plain m ρ c 1 (by decide)).symm
theorem cut_2 (c : Dev nD) : got m ρ c 1 = iprop(held m ρ c 2 ∗ lend m ρ c 3 ∗ lend m ρ c 4) := by
  unfold got
  rw [held_plain m ρ c 2 (by decide), pts_share, pts_share (q := fullShare.right)]
  show iprop(lend m ρ c 3 ∗ lend m ρ c 4 ∗ pts c 2 0 (ksh 2) (comm m ρ c)) = _
  ac_rfl
theorem cut_8 (c : Dev nD) : got m ρ c 2 = iprop(held m ρ c 8 ∗ lend m ρ c 5 ∗ lend m ρ c 12) := by
  unfold got
  rw [held_plain m ρ c 8 (by decide), pts_share, pts_share (q := fullShare.right)]
  show iprop(lend m ρ c 5 ∗ lend m ρ c 12 ∗ pts c 8 0 (ksh 8) (comm m ρ c)) = _
  ac_rfl
theorem cut_3 (c : Dev nD) : got m ρ c 3 = iprop(held m ρ c 3 ∗ lend m ρ c 6 ∗ lend m ρ c 7 ∗ lend m ρ c 8) := by
  show pts c 3 0 fullShare (comm m ρ c) = _
  rw [held_plain m ρ c 3 (by decide), pts_share, pts_share (q := fullShare.right), pts_halves (q := fullShare.right.left)]
  show iprop(lend m ρ c 6 ∗ (lend m ρ c 7 ∗ lend m ρ c 8) ∗ pts c 3 0 (ksh 3) (comm m ρ c)) = _
  ac_rfl
theorem cut_9 (c : Dev nD) : got m ρ c 5 = iprop(held m ρ c 9 ∗ lend m ρ c 9 ∗ lend m ρ c 10 ∗ lend m ρ c 11) := by
  show pts c 9 0 fullShare (comm m ρ c) = _
  rw [held_plain m ρ c 9 (by decide), pts_share, pts_share (q := fullShare.right), pts_halves (q := fullShare.right.left)]
  show iprop(lend m ρ c 9 ∗ (lend m ρ c 10 ∗ lend m ρ c 11) ∗ pts c 9 0 (ksh 9) (comm m ρ c)) = _
  ac_rfl
theorem cut_4 (c : Dev nD) : got m ρ c 6 = iprop(held m ρ c 4 ∗ lend m ρ c 14) := by
  show pts c 4 0 fullShare (comm m ρ c) = _
  rw [pts_share, pts_halves (q := fullShare.left)]
  show iprop((lend m ρ c 14 ∗ spare m ρ c 4) ∗ keep m ρ c 4) = iprop((keep m ρ c 4 ∗ spare m ρ c 4) ∗ lend m ρ c 14)
  ac_rfl
theorem cut_10 (c : Dev nD) : got m ρ c 9 = iprop(held m ρ c 10 ∗ lend m ρ c 16) := by
  show pts c 10 0 fullShare (comm m ρ c) = _
  rw [pts_share, pts_halves (q := fullShare.left)]
  show iprop((spare m ρ c 10 ∗ lend m ρ c 16) ∗ keep m ρ c 10) = iprop((keep m ρ c 10 ∗ spare m ρ c 10) ∗ lend m ρ c 16)
  ac_rfl
theorem cut_12 (c : Dev nD) : got m ρ c 4 = held m ρ c 12 := (held_plain m ρ c 12 (by decide)).symm
theorem cut_13 (c : Dev nD) : got m ρ c 12 = held m ρ c 13 := (held_plain m ρ c 13 (by decide)).symm
theorem cut_14a (c : Dev nD) : got m ρ c 7 = iprop(lend m ρ c 13 ∗ hk m ρ c 14 1) := pts_share ..
theorem cut_14b (c : Dev nD) : got m ρ c 8 = iprop(lend m ρ c 15 ∗ hk m ρ c 14 2) := pts_share ..
theorem cut_15a (c : Dev nD) : got m ρ c 10 = iprop(lend m ρ c 17 ∗ hk m ρ c 15 1) := pts_share ..
theorem cut_15b (c : Dev nD) : got m ρ c 11 = iprop(lend m ρ c 18 ∗ hk m ρ c 15 2) := pts_share ..
theorem cut_5a (c : Dev nD) : got m ρ c 13 = iprop(lend m ρ c 19 ∗ hk m ρ c 5 1) := pts_share ..
/-- Two halves that have both arrived make what the product holds, or that and what a later copy borrows. -/
theorem join_14 (c : Dev nD) : held m ρ c 14 = iprop(hk m ρ c 14 1 ∗ hk m ρ c 14 2) := (held_plain m ρ c 14 (by decide)).trans (pts_halves ..)
theorem join_15 (c : Dev nD) : held m ρ c 15 = iprop(hk m ρ c 15 1 ∗ hk m ρ c 15 2) := (held_plain m ρ c 15 (by decide)).trans (pts_halves ..)
theorem join_5 (c : Dev nD) : iprop(got m ρ c 15 ∗ hk m ρ c 5 1) = held m ρ c 5 := by
  show iprop(pts c 5 2 fullShare (comm m ρ c) ∗ hk m ρ c 5 1) = iprop(pts c 5 0 fullShare.right (comm m ρ c) ∗ pts c 5 2 fullShare.left (comm m ρ c))
  rw [pts_share, pts_halves (q := fullShare.right)]
  unfold hk
  ac_rfl
theorem join_6 (c : Dev nD) : iprop(got m ρ c 14 ∗ got m ρ c 16) = held m ρ c 6 :=
  ((held_plain m ρ c 6 (by decide)).trans (pts_halves ..)).symm
theorem join_7 (c : Dev nD) : iprop(got m ρ c 19 ∗ got m ρ c 20) = held m ρ c 7 :=
  ((held_plain m ρ c 7 (by decide)).trans (pts_halves ..)).symm
theorem join_11 (c : Dev nD) : iprop(got m ρ c 17 ∗ got m ρ c 18) = iprop(held m ρ c 11 ∗ lend m ρ c 20) := by
  show iprop(pts c 11 1 fullShare (comm m ρ c) ∗ pts c 11 2 fullShare (comm m ρ c)) = _
  rw [← pts_halves, pts_share, pts_halves (q := fullShare.left)]
  show iprop((spare m ρ c 11 ∗ lend m ρ c 20) ∗ keep m ρ c 11) = iprop((keep m ρ c 11 ∗ spare m ρ c 11) ∗ lend m ρ c 20)
  ac_rfl

/-- The slots that arrive in halves and are sent on, as a whole. -/
theorem slot_14 (c : Dev nD) : pts c 14 0 fullShare (comm m ρ c) = iprop(held m ρ c 14 ∗ lend m ρ c 13 ∗ lend m ρ c 15) := by
  rw [pts_halves, show pts c 14 1 fullShare (comm m ρ c) = got m ρ c 7 from rfl, show pts c 14 2 fullShare (comm m ρ c) = got m ρ c 8 from rfl,
    cut_14a, cut_14b, join_14]
  ac_rfl
theorem slot_15 (c : Dev nD) : pts c 15 0 fullShare (comm m ρ c) = iprop(held m ρ c 15 ∗ lend m ρ c 17 ∗ lend m ρ c 18) := by
  rw [pts_halves, show pts c 15 1 fullShare (comm m ρ c) = got m ρ c 10 from rfl, show pts c 15 2 fullShare (comm m ρ c) = got m ρ c 11 from rfl,
    cut_15a, cut_15b, join_15]
  ac_rfl
theorem slot_5 (c : Dev nD) : pts c 5 0 fullShare (comm m ρ c) = iprop(held m ρ c 5 ∗ lend m ρ c 19) := by
  rw [pts_halves, show pts c 5 1 fullShare (comm m ρ c) = got m ρ c 13 from rfl, show pts c 5 2 fullShare (comm m ρ c) = got m ρ c 15 from rfl,
    cut_5a, ← join_5]
  ac_rfl

/-- The whole scratch buffer is what the products hold with what the transfers were lent. -/
theorem parts (c : Dev nD) :
    ((((c : Thread nD τ).loc cc0_scratch0) ↦{fullShare} comm m ρ c : sProp 𝕄))
      = iprop(bigSep Finset.univ (held m ρ c) ∗ bigSep Finset.univ (lend m ρ c)) := by
  rw [show ((((c : Thread nD τ).loc cc0_scratch0) ↦{fullShare} comm m ρ c : sProp 𝕄))
      = bigSep Finset.univ fun k => pts c k 0 fullShare (comm m ρ c) by
    unfold pts
    rw [pc_univ]
    exact pointsTo_biUnion _ _ fun k _ k' _ h => pc_disjoint (.inl h)]
  have h1 : pts c 1 0 fullShare (comm m ρ c) = held m ρ c 1 := cut_1 m ρ c
  have h2 : pts c 2 0 fullShare (comm m ρ c) = _ := cut_2 m ρ c
  have h3 : pts c 3 0 fullShare (comm m ρ c) = _ := cut_3 m ρ c
  have h4 : pts c 4 0 fullShare (comm m ρ c) = _ := cut_4 m ρ c
  have h6 : pts c 6 0 fullShare (comm m ρ c) = held m ρ c 6 := (pts_halves ..).trans (join_6 m ρ c)
  have h7 : pts c 7 0 fullShare (comm m ρ c) = held m ρ c 7 := (pts_halves ..).trans (join_7 m ρ c)
  have h8 : pts c 8 0 fullShare (comm m ρ c) = _ := cut_8 m ρ c
  have h9 : pts c 9 0 fullShare (comm m ρ c) = _ := cut_9 m ρ c
  have h10 : pts c 10 0 fullShare (comm m ρ c) = _ := cut_10 m ρ c
  have h11 : pts c 11 0 fullShare (comm m ρ c) = iprop(held m ρ c 11 ∗ lend m ρ c 20) := (pts_halves ..).trans (join_11 m ρ c)
  have h12 : pts c 12 0 fullShare (comm m ρ c) = held m ρ c 12 := cut_12 m ρ c
  have h13 : pts c 13 0 fullShare (comm m ρ c) = held m ρ c 13 := cut_13 m ρ c
  simp only [bigSep_univ_eq_bigSepL ([0, 1, 2, 3, 4, 5, 6, 7, 8, 9, 10, 11, 12, 13, 14, 15] : List (Fin 16)) (by decide) (by decide),
    bigSep_univ_eq_bigSepL ([0, 1, 2, 3, 4, 5, 6, 7, 8, 9, 10, 11, 12, 13, 14, 15, 16, 17, 18, 19, 20] : List (Fin 21)) (by decide) (by decide),
    bigSepL_cons_cons, bigSepL_singleton, sep_fold]
  rw [cut_0, h1, h2, h3, h4, slot_5, h6, h7, h8, h9, h10, h11, h12, h13, slot_14, slot_15]
  ac_rfl

end Cert.Gather
-- ==== Proof.Start.lean ====
/-
# The start and the turn

The three signals to the neighbours, each with the room this device gives its neighbour to write to; the copy of the
device's own block to slot 0; the wait on the barrier, after which the device holds the room its own transfers write to.
`turn` is the point after the last receive, from where only the send semaphores are left to wait on.
-/
module

public import proofs.«01_k».proof.Proof.Shares

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (rangeSet bigSep_rangeSet_empty rangeSet_univ rangeSet_empty)

variable {F : FTy → Type} [FloatOps F]

local notation "𝕄" => MT nD τ sig Unit (Elt F) ℕ UU ℕ

variable (m : (ℓ : Loc nD τ sig) → Buf (Elt F) ℓ) (ρ : Dev nD → PrngReg) (K : Dev nD × Cx → ℕ)

local instance : Std.Associative (fun P Q : sProp 𝕄 => iprop(P ∗ Q)) := ⟨fun _ _ _ => eqv sep_assoc⟩
local instance : Std.Commutative (fun P Q : sProp 𝕄 => iprop(P ∗ Q)) := ⟨fun _ _ => eqv sep_comm⟩

/-- The weakest precondition of a program on device `c`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## Room -/

/-- The scratch buffer at launch: slot 0, and the place of every transfer. -/
theorem rooms (c : Dev nD) (f : (cc0_scratch0 : Ref sig .tc).ty.Contents (Elt F)) :
    ((((c : Thread nD τ).loc cc0_scratch0) ↦{fullShare} f : sProp 𝕄)) ⊢ iprop(pts c 0 0 fullShare f ∗ bigSep Finset.univ (raw c)) := by
  have h : ((((c : Thread nD τ).loc cc0_scratch0) ↦{fullShare} f : sProp 𝕄))
      = iprop(pts c 0 0 fullShare f ∗ bigSep Finset.univ fun t => pts c (dst t) (half t) fullShare f) := by
    rw [show ((((c : Thread nD τ).loc cc0_scratch0) ↦{fullShare} f : sProp 𝕄)) = bigSep Finset.univ fun k => pts c k 0 fullShare f by
      unfold pts
      rw [pc_univ]
      exact pointsTo_biUnion _ _ fun k _ k' _ h => pc_disjoint (.inl h)]
    simp only [bigSep_univ_eq_bigSepL ([0, 1, 2, 3, 4, 5, 6, 7, 8, 9, 10, 11, 12, 13, 14, 15] : List (Fin 16)) (by decide) (by decide),
      bigSep_univ_eq_bigSepL ([0, 1, 2, 3, 4, 5, 6, 7, 8, 9, 10, 11, 12, 13, 14, 15, 16, 17, 18, 19, 20] : List (Fin 21)) (by decide) (by decide),
      bigSepL_cons_cons, bigSepL_singleton, sep_fold]
    rw [pts_halves c 5, pts_halves c 6, pts_halves c 7, pts_halves c 11, pts_halves c 14, pts_halves c 15]
    show _ = iprop(pts c 0 0 fullShare f ∗ pts c 1 0 fullShare f ∗ pts c 2 0 fullShare f ∗ pts c 8 0 fullShare f ∗ pts c 3 0 fullShare f
      ∗ pts c 12 0 fullShare f ∗ pts c 9 0 fullShare f ∗ pts c 4 0 fullShare f ∗ pts c 14 1 fullShare f ∗ pts c 14 2 fullShare f
      ∗ pts c 10 0 fullShare f ∗ pts c 15 1 fullShare f ∗ pts c 15 2 fullShare f ∗ pts c 13 0 fullShare f ∗ pts c 5 1 fullShare f
      ∗ pts c 6 1 fullShare f ∗ pts c 5 2 fullShare f ∗ pts c 6 2 fullShare f ∗ pts c 11 1 fullShare f ∗ pts c 11 2 fullShare f
      ∗ pts c 7 1 fullShare f ∗ pts c 7 2 fullShare f)
    ac_rfl
  rw [h]
  exact sep_mono_right (bigSep_mono fun t _ => show (pts c (dst t) (half t) fullShare f : sProp 𝕄) ⊢ raw c t by unfold raw; iintro H; iexists f; iexact H)

/-- What device `c` gives its neighbour `nb e c`: the places of `c` that the neighbour's transfers write to. -/
theorem room_eq (c : Dev nD) (e : Fin 3) : room (F := F) (nb e c) (opp e) = bigSep (Finset.univ.filter fun t => dir t = opp e) (raw c) := by
  unfold room
  refine bigSep_congr fun t ht => ?_
  have : tgt t (nb e c) = c := by unfold tgt; rw [(Finset.mem_filter.mp ht).2, nb_opp]
  rw [this]

/-- A device's slots, sorted by the neighbour that writes them. -/
theorem rooms_out (c : Dev nD) : bigSep Finset.univ (raw (F := F) c)
    = iprop(room (F := F) (nb 0 c) (opp 0) ∗ room (F := F) (nb 1 c) (opp 1) ∗ room (F := F) (nb 2 c) (opp 2)) := by
  rw [room_eq, room_eq, room_eq, by_dir, bigSep_univ_eq_bigSepL ([opp 0, opp 1, opp 2] : List (Fin 3)) (by decide) (by decide)]
  simp only [bigSepL_cons_cons, bigSepL_singleton, sep_fold]

/-! ## The signals and the wait -/

/-- Signalling a neighbour's barrier. -/
theorem sig_step (c n : Dev nD) (e : Fin 3) (hn : n = nb e c) (O O' : CellTallies nD τ sig Unit) (hO : O = O' + tallyAt (bar (nb e c)) () 1)
    (sem : Sem sig) (hsem : sem = barS) (a : Int) (ha : a = 1)
    {α : Type} {Q : α → sProp 𝕄} {κ : PUnit → Prog (TpuEff nD τ sig (Elt F) Λ₀ .tc) α} :
    iprop(recs m ρ K ∗ owing c O ∗ dutyTok ER (bar (nb e c)) 0 (opp e) ∗ room (nb e c) (opp e))
      ⊢ iprop((owing c O' -∗ WP c (κ ⟨⟩) Q) -∗ WP c (.op (.semSignal (Dev.tc n : Thread nD τ) sem a) κ) Q) := by
  subst hn hO hsem ha
  unfold owing
  iintro ⟨#HR, ⟨%W, HO⟩, Ht, Hroom⟩ Hk
  ihave ⟨#HI, #Hr⟩ := (recs_bar m ρ K (nb e c)) $$ HR
  iapply (Rounds.wp_signal 𝒱₀ ER (Rd m ρ) (c : Thread nD τ) none (dst := (nb e c : Thread nD τ)) (κ := K (nb e c, none))
      (d := opp e) (by rw [duties_bar]; exact Finset.mem_univ _) ((amount_bar m ρ (nb e c) (opp e)).trans (by decide)) () O' rfl) $$ [HO Ht Hroom]
  · isplitr; · iexact HI
    isplitl [HO]; · iexact HO
    isplitl [Ht]; · iexact Ht
    isplitl [Hroom]; · rw [payload_bar]; iexact Hroom
    iexact Hr
  iintro HO
  iapply Hk
  iexists W; iexact HO

/-- The barrier's wait: the places of the neighbours come with it, and the ledger of the transfers starts. -/
theorem bar_step (c : Dev nD) (sem : Sem sig) (hsem : sem = barS) (a : Int) (ha : a = 3)
    {α : Type} {Q : α → sProp 𝕄} {κ : PUnit → Prog (TpuEff nD τ sig (Elt F) Λ₀ .tc) α} :
    iprop(recs m ρ K ∗ levAts L lv ∗ owing c (Ow c 0) ∗ cred (tallyAt (bar c) () 3) ∗ atPos ER (bar c) 0 ∅ 0
        ∗ bigSep Finset.univ (toks c) ∗ bigSep Finset.univ (exp c))
      ⊢ iprop(((Led m ρ K c 0 0 ∗ semVal (bar c) 0) -∗ WP c (κ ⟨⟩) Q) -∗ WP c (.op (.semWait sem a) κ) Q) := by
  subst hsem ha
  unfold owing
  iintro ⟨#HR, #Hlv, ⟨%W, HO⟩, Hc, Hat, Htok, Hexp⟩ Hk
  ihave ⟨#HI, -⟩ := (recs_bar m ρ K c) $$ HR
  iapply (Rounds.wp_wait_rest_token 𝒱₀ ER (Rd m ρ) (c : Thread nD τ) none (κ := K (c, none))
      (wpE_semWait_eq 𝒱₀ (c : Thread nD τ) none Set.univ) (Set.mem_univ _) () (O := Ow c 0) (W := W) (R := 0) (m := 0) (T := ∅)
      (by rw [expect_bar])) $$ [Hc HO Hat]
  · isplitr; · iexact HI
    isplitl [Hc]; · iexact Hc
    isplitl [HO]; · iexact HO
    isplitr; · iapply (mayWait_Ow c 0 (.reg barS) (by decide)); iexact Hlv
    iexact Hat
  iintro ⟨HO, Hat, -, Hpay⟩
  ihave Hp := (Entails.of_eq (rest_bar m ρ c)) $$ Hpay
  imod (Rounds.cell_close ER (Rd m ρ) (Set.mem_univ (K (c, none))) (fun h => h) (R := 0 + 1) (duties_later m ρ (bar c))) $$ [Hat] with Hz
  · isplitr; · iexact HI
    iexact Hat
  iapply Hk
  isplitr [Hz]
  swap; · iexact Hz
  unfold Led owing
  isplitr; · iexact HR
  isplitr; · iexact Hlv
  isplitl [HO]; · iexists _; iexact HO
  rw [rangeSet_univ, bigSep_rangeSet_empty (le_refl 0), bigSep_rangeSet_empty (le_refl 0), bigSep_sep']
  isplitl [Htok Hp]
  · isplitl [Htok] <;> iassumption
  isplitr; · iempintro
  isplitl [Hexp]
  · iapply (Entails.of_eq (bigSep_univ_equiv (Equiv.ofBijective ord ord_bij) (exp (F := F) c)))
    iexact Hexp
  iempintro

/-! ## The device's own block -/

/-- Copying the device's own block to slot 0. -/
theorem own_step (c : Dev nD) (f : (cc0_scratch0 : Ref sig .tc).ty.Contents (Elt F)) (inb₁) (inb₂) {hl₁} {hl₂} {hx} {hm}
    {α : Type} {Q : α → sProp 𝕄} {κ : PUnit → Prog (TpuEff nD τ sig (Elt F) Λ₀ .tc) α} :
    iprop((((c : Thread nD τ).loc cc0_stg0_0) ↦{fullShare} xstg m ρ c) ∗ pts c 0 0 fullShare f)
      ⊢ iprop((((((c : Thread nD τ).loc cc0_stg0_0) ↦{fullShare} xstg m ρ c) ∗ pts c 0 0 fullShare (comm m ρ c)) -∗ WP c (κ ⟨⟩) Q)
        -∗ WP c (.op (.load xM (Rect.unit (s := S256x4096) ![0, 0] S256x4096.size inb₁).toLoadRect hl₁) fun v =>
            .op (.load aM (Rect.unit (s := S16x256x4096) ![0, 0, 0] S1x256x4096.size inb₂).toLoadRect hl₂) fun _ =>
            .op (.store aM (Rect.unit (s := S16x256x4096) ![0, 0, 0] S1x256x4096.size inb₂) (k0_pay1 v) Finset.univ hx hm) κ) Q) := by
  unfold pts
  iintro ⟨Hx, H⟩ Hk
  iapply (wp_load 𝒱₀ (c : Thread nD τ) none Set.univ (m := xM) (Finset.subset_univ _)) $$ Hx
  iintro Hx
  rw [show xM.view.readAt (Elt F) (Rect.unit (s := S256x4096) ![0, 0] S256x4096.size inb₁).toLoadRect (xstg m ρ c) = xstg m ρ c from
    Memref.readAt_unit_zero (Elt F) cc0_stg0_0 hz2 _ _]
  iapply (wp_load 𝒱₀ (c : Thread nD τ) none Set.univ (m := aM) (by
    rw [show aM.view.setOn _ = _ from Finset.map_refl]; exact (set_rect 0 0 rfl rfl rfl inb₂).le)) $$ H
  iintro H
  iapply (wp_store 𝒱₀ (c : Thread nD τ) none Set.univ (m := aM) (r := Rect.unit (s := S16x256x4096) ![0, 0, 0] S1x256x4096.size inb₂)
    (Mk := Finset.univ) (S := pc 0 0) (by
      rw [← set_rect 0 0 rfl rfl rfl inb₂, ← View.set_slice_whole cc0_scratch0]; exact le_rfl)) $$ H
  iintro H
  iapply Hk
  isplitl [Hx]; · iexact Hx
  iapply (Entails.of_eq (pointsTo_congr (write_own m ρ c inb₂ f)))
  iexact H

/-! ## The turn -/

/-- After the last receive: the send semaphores are left to wait on. -/
theorem turn (c : Dev nD) :
    iprop(Led m ρ K c 21 21 ∗ bigSep Finset.univ fun t => atPos ER (snd t c) 0 ∅ 0)
      ⊢ iprop(Ret m ρ K c 0 ∗ bigSep Finset.univ fun t => semVal (rcv t c) 0) := by
  unfold Led Ret
  rw [rangeSet_univ, bigSep_rangeSet_empty (le_refl 21), bigSep_rangeSet_empty (le_refl 21), bigSep_rangeSet_empty (le_refl 0), bigSep_sep', Ow_end]
  iintro ⟨⟨#HR, -, HO, -, Hc, -, Hz⟩, Hat⟩
  isplitr [Hz]
  · isplitr; · iexact HR
    isplitl [HO]; · iexact HO
    isplitl [Hc Hat]
    · isplitl [Hc] <;> iassumption
    iempintro
  iapply (Entails.of_eq (bigSep_univ_equiv (Equiv.ofBijective ord ord_bij) fun t => (semVal (rcv t c) 0 : sProp 𝕄)).symm)
  iexact Hz

end Cert.Gather
-- ==== Proof.PartsA.lean ====
/-
# The body's parts: the first receives

Each theorem runs one part of the body: what it takes, and what is there after it.
-/
module

public import proofs.«01_k».proof.Proof.Start

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × Cx → ℕ)

/-- The barrier wait hands over the pieces to write; then copies 0 and 1 are issued. -/
theorem part3 (c : Dev nD) (v40 v50 v51 : BitVec 32) (Q : (PUnit) → sProp 𝕄) :
    iprop((recs m ρ K ∗ levAts L lv ∗ owing c (Ow c 0) ∗ cred (tallyAt (bar c) () 3) ∗ atPos ER (bar c) 0 ∅ 0
        ∗ bigSep Finset.univ (toks c) ∗ bigSep Finset.univ (exp c)) ∗ lend m ρ c 0 ∗ lend m ρ c 1)
      ⊢ iprop((∀ r, (Led m ρ K c 2 0 ∗ semVal (bar c) 0) -∗ Q r)
        -∗ WP c (k0_part3 xM (Memref.isWhole_whole _) wM (Memref.isWhole_whole _) oM (Memref.isWhole_whole _) aM (Memref.isWhole_whole _)
          cc0_scratch1 cc0_scratch2 cc0_scratch3 cc0_scratch4 cc0_scratch5 cc0_scratch6 c v40 v50 v51 (SemArray.scalar (sig.barrier 0 rfl))) Q) := by
  rw [k0_part3_eq_skeleton]; unfold k0_part3_skel
  simp only [semWaitWord, Prog.lift, Prog.bind_op, Prog.bind_ret, Prog.pure_eq_ret]
  iintro ⟨HP, Hl0, Hl1⟩ Hk
  iapply (bar_step m ρ K c _ (by exact rfl) _ (by decide)) $$ [HP]
  · iexact HP
  iintro ⟨HL, Hz⟩
  iapply (send_step m ρ K c _ 0 (dev_0 c) 0 1 0 rfl rfl _ _ _ _ rfl rfl rfl rfl _ _ _ _ _ rfl rfl (by exact rfl)) $$ [HL Hl0]
  · isplitl [HL] <;> iassumption
  iintro HL
  iapply (send_step m ρ K c _ 1 (dev_1 c) 1 2 0 rfl rfl _ _ _ _ rfl rfl rfl rfl _ _ _ _ _ rfl rfl (by exact rfl)) $$ [HL Hl1]
  · isplitl [HL] <;> iassumption
  iintro HL
  rw [wp_ret]; imodintro
  iapply Hk
  isplitl [HL]; · iexact HL
  iexact Hz

/-- Part 4 waits for arrival 0, issues copy 2 and stores products 0 and 1. -/
theorem part4 (c : Dev nD) (v2 v51 : BitVec 32) (Q : (PUnit) → sProp 𝕄) :
    iprop(Led m ρ K c 2 0 ∗ Gem m ρ c 0 ∗ lend m ρ c 2 ∗ held m ρ c 0)
      ⊢ iprop((∀ r, (Led m ρ K c 3 1 ∗ Gem m ρ c 2) -∗ Q r)
        -∗ WP c (k0_part4 xM (Memref.isWhole_whole _) wM (Memref.isWhole_whole _) oM (Memref.isWhole_whole _) aM (Memref.isWhole_whole _)
          cc0_scratch1 cc0_scratch2 cc0_scratch3 cc0_scratch4 cc0_scratch5 cc0_scratch6 c v2 v51) Q) := by
  rw [k0_part4_eq_skeleton]; unfold k0_part4_skel
  simp only [Prog.lift, Prog.bind_op, Prog.bind_ret, Prog.pure_eq_ret]
  iintro ⟨HL, HG, Hl2, Hh0⟩ Hk
  iapply (send_step m ρ K c _ 2 (dev_2 c) 2 3 0 rfl rfl _ _ _ _ rfl rfl rfl rfl _ _ _ _ _ rfl rfl (by exact rfl)) $$ [HL Hl2]
  · isplitl [HL] <;> iassumption
  iintro HL
  iapply (prod_step m ρ c 0 0 0 rfl rfl 0 1 rfl rfl _ (off_0 c) k0_pay2 rfl _ _ _) $$ [HG Hh0]
  · isplitl [HG] <;> iassumption
  iintro HG
  iapply (recv_step m ρ K c 0 0 rfl 3 0 1 rfl rfl (by decide) _ (by exact rfl) _ _ (by exact rfl)) $$ HL
  iintro ⟨HL, Hg0⟩
  ihave Hh1 := (Entails.of_eq (cut_1 m ρ c)) $$ Hg0
  iapply (prod_step m ρ c 1 1 1 rfl rfl 1 2 rfl rfl _ (off_1 c) k0_pay3 rfl _ _ _) $$ [HG Hh1]
  · isplitl [HG] <;> iassumption
  iintro HG
  rw [wp_ret]; imodintro
  iapply Hk
  isplitl [HL]; · iexact HL
  iexact HG

/-- Part 5 waits for arrival 1 and issues copies 3 and 4. -/
theorem part5 (c : Dev nD) (v30 v40 v51 : BitVec 32) (Q : (BitVec 32) → sProp 𝕄) :
    iprop(Led m ρ K c 3 1)
      ⊢ iprop((∀ r, (Led m ρ K c 5 2 ∗ held m ρ c 2) -∗ Q r)
        -∗ WP c (k0_part5 xM (Memref.isWhole_whole _) wM (Memref.isWhole_whole _) oM (Memref.isWhole_whole _) aM (Memref.isWhole_whole _)
          cc0_scratch1 cc0_scratch2 cc0_scratch3 cc0_scratch4 cc0_scratch5 cc0_scratch6 c v30 v40 v51) Q) := by
  rw [k0_part5_eq_skeleton]; unfold k0_part5_skel
  simp only [Prog.lift, Prog.bind_op, Prog.bind_ret, Prog.pure_eq_ret]
  iintro HL Hk
  iapply (recv_step m ρ K c 1 1 rfl 3 1 2 rfl rfl (by decide) _ (by exact rfl) _ _ (by exact rfl)) $$ HL
  iintro ⟨HL, Hg1⟩
  ihave ⟨Hh2, Hl3, Hl4⟩ := (Entails.of_eq (cut_2 m ρ c)) $$ Hg1
  iapply (send_step m ρ K c _ 3 (dev_3 c) 3 4 2 rfl rfl _ _ _ _ rfl rfl rfl rfl _ _ _ _ _ rfl rfl (by exact rfl)) $$ [HL Hl3]
  · isplitl [HL] <;> iassumption
  iintro HL
  iapply (send_step m ρ K c _ 4 (dev_4 c) 4 5 2 rfl rfl _ _ _ _ rfl rfl rfl rfl _ _ _ _ _ rfl rfl (by exact rfl)) $$ [HL Hl4]
  · isplitl [HL] <;> iassumption
  iintro HL
  rw [wp_ret]; imodintro
  iapply Hk
  isplitl [HL]; · iexact HL
  iexact Hh2

/-- Part 6 waits for arrival 2 and stores product 2. -/
theorem part6 (c : Dev nD) (v24 v27 v50 v146 : BitVec 32) (Q : (PUnit) → sProp 𝕄) :
    iprop(Led m ρ K c 5 2 ∗ Gem m ρ c 2 ∗ held m ρ c 2)
      ⊢ iprop((∀ r, (Led m ρ K c 5 3 ∗ Gem m ρ c 3 ∗ held m ρ c 8 ∗ lend m ρ c 5 ∗ lend m ρ c 12) -∗ Q r)
        -∗ WP c (k0_part6 xM (Memref.isWhole_whole _) wM (Memref.isWhole_whole _) oM (Memref.isWhole_whole _) aM (Memref.isWhole_whole _)
          cc0_scratch1 cc0_scratch2 cc0_scratch3 cc0_scratch4 cc0_scratch5 cc0_scratch6 c v24 v27 v50 v146) Q) := by
  rw [k0_part6_eq_skeleton]; unfold k0_part6_skel
  simp only [Prog.lift, Prog.bind_op, Prog.bind_ret, Prog.pure_eq_ret]
  iintro ⟨HL, HG, Hh2⟩ Hk
  iapply (prod_step m ρ c 2 2 2 rfl rfl 2 3 rfl rfl _ (off_2 c) k0_pay4 rfl _ _ _) $$ [HG Hh2]
  · isplitl [HG] <;> iassumption
  iintro HG
  iapply (recv_step m ρ K c 2 2 rfl 5 2 3 rfl rfl (by decide) _ (by exact rfl) _ _ (by exact rfl)) $$ HL
  iintro ⟨HL, Hg2⟩
  ihave ⟨Hh8, Hl5, Hl12⟩ := (Entails.of_eq (cut_8 m ρ c)) $$ Hg2
  rw [wp_ret]; imodintro
  iapply Hk
  isplitl [HL]; · iexact HL
  isplitl [HG]; · iexact HG
  isplitl [Hh8]; · iexact Hh8
  isplitl [Hl5]; · iexact Hl5
  iexact Hl12

/-- Part 7 issues copy 5 and stores product 3. -/
theorem part7 (c : Dev nD) (v24 v27 v30 v40 : BitVec 32) (Q : (PUnit) → sProp 𝕄) :
    iprop(Led m ρ K c 5 3 ∗ Gem m ρ c 3 ∗ lend m ρ c 5 ∗ held m ρ c 8)
      ⊢ iprop((∀ r, (Led m ρ K c 6 3 ∗ Gem m ρ c 4) -∗ Q r)
        -∗ WP c (k0_part7 xM (Memref.isWhole_whole _) wM (Memref.isWhole_whole _) oM (Memref.isWhole_whole _) aM (Memref.isWhole_whole _)
          cc0_scratch1 cc0_scratch2 cc0_scratch3 cc0_scratch4 cc0_scratch5 cc0_scratch6 c v24 v27 v30 v40) Q) := by
  rw [k0_part7_eq_skeleton]; unfold k0_part7_skel
  simp only [Prog.lift, Prog.bind_op, Prog.bind_ret, Prog.pure_eq_ret]
  iintro ⟨HL, HG, Hl5, Hh8⟩ Hk
  iapply (send_step m ρ K c _ 5 (dev_5 c) 5 6 3 rfl rfl _ _ _ _ rfl rfl rfl rfl _ _ _ _ _ rfl rfl (by exact rfl)) $$ [HL Hl5]
  · isplitl [HL] <;> iassumption
  iintro HL
  iapply (prod_step m ρ c 3 8 8 rfl rfl 3 4 rfl rfl _ (off_8 c) k0_pay5 rfl _ _ _) $$ [HG Hh8]
  · isplitl [HG] <;> iassumption
  iintro HG
  rw [wp_ret]; imodintro
  iapply Hk
  isplitl [HL]; · iexact HL
  iexact HG

/-- Part 8 waits for arrival 3 and issues copies 6 and 7. -/
theorem part8 (c : Dev nD) (v40 v51 : BitVec 32) (Q : (PUnit) → sProp 𝕄) :
    iprop(Led m ρ K c 6 3)
      ⊢ iprop((∀ r, (Led m ρ K c 8 4 ∗ held m ρ c 3 ∗ lend m ρ c 8) -∗ Q r)
        -∗ WP c (k0_part8 xM (Memref.isWhole_whole _) wM (Memref.isWhole_whole _) oM (Memref.isWhole_whole _) aM (Memref.isWhole_whole _)
          cc0_scratch1 cc0_scratch2 cc0_scratch3 cc0_scratch4 cc0_scratch5 cc0_scratch6 c v40 v51) Q) := by
  rw [k0_part8_eq_skeleton]; unfold k0_part8_skel
  simp only [Prog.lift, Prog.bind_op, Prog.bind_ret, Prog.pure_eq_ret]
  iintro HL Hk
  iapply (recv_step m ρ K c 3 3 rfl 6 3 4 rfl rfl (by decide) _ (by exact rfl) _ _ (by exact rfl)) $$ HL
  iintro ⟨HL, Hg3⟩
  ihave ⟨Hh3, Hl6, Hl7, Hl8⟩ := (Entails.of_eq (cut_3 m ρ c)) $$ Hg3
  iapply (send_step m ρ K c _ 6 (dev_6 c) 6 7 4 rfl rfl _ _ _ _ rfl rfl rfl rfl _ _ _ _ _ rfl rfl (by exact rfl)) $$ [HL Hl6]
  · isplitl [HL] <;> iassumption
  iintro HL
  iapply (send_step m ρ K c _ 7 (dev_7 c) 7 8 4 rfl rfl _ _ _ _ rfl rfl rfl rfl _ _ _ _ _ rfl rfl (by exact rfl)) $$ [HL Hl7]
  · isplitl [HL] <;> iassumption
  iintro HL
  rw [wp_ret]; imodintro
  iapply Hk
  isplitl [HL]; · iexact HL
  isplitl [Hh3]; · iexact Hh3
  iexact Hl8

/-- Part 9 issues copy 8 and stores product 4. -/
theorem part9 (c : Dev nD) (v24 v27 v30 v50 : BitVec 32) (Q : (PUnit) → sProp 𝕄) :
    iprop(Led m ρ K c 8 4 ∗ Gem m ρ c 4 ∗ lend m ρ c 8 ∗ held m ρ c 3)
      ⊢ iprop((∀ r, (Led m ρ K c 9 4 ∗ Gem m ρ c 5) -∗ Q r)
        -∗ WP c (k0_part9 xM (Memref.isWhole_whole _) wM (Memref.isWhole_whole _) oM (Memref.isWhole_whole _) aM (Memref.isWhole_whole _)
          cc0_scratch1 cc0_scratch2 cc0_scratch3 cc0_scratch4 cc0_scratch5 cc0_scratch6 c v24 v27 v30 v50) Q) := by
  rw [k0_part9_eq_skeleton]; unfold k0_part9_skel
  simp only [Prog.lift, Prog.bind_op, Prog.bind_ret, Prog.pure_eq_ret]
  iintro ⟨HL, HG, Hl8, Hh3⟩ Hk
  iapply (send_step m ρ K c _ 8 (dev_8 c) 8 9 4 rfl rfl _ _ _ _ rfl rfl rfl rfl _ _ _ _ _ rfl rfl (by exact rfl)) $$ [HL Hl8]
  · isplitl [HL] <;> iassumption
  iintro HL
  iapply (prod_step m ρ c 4 3 3 rfl rfl 4 5 rfl rfl _ (off_3 c) k0_pay6 rfl _ _ _) $$ [HG Hh3]
  · isplitl [HG] <;> iassumption
  iintro HG
  rw [wp_ret]; imodintro
  iapply Hk
  isplitl [HL]; · iexact HL
  iexact HG

/-- Part 10 waits for arrival 4 and issues copies 9 and 10. -/
theorem part10 (c : Dev nD) (v50 v51 : BitVec 32) (Q : (PUnit) → sProp 𝕄) :
    iprop(Led m ρ K c 9 4)
      ⊢ iprop((∀ r, (Led m ρ K c 11 5 ∗ held m ρ c 9 ∗ lend m ρ c 11) -∗ Q r)
        -∗ WP c (k0_part10 xM (Memref.isWhole_whole _) wM (Memref.isWhole_whole _) oM (Memref.isWhole_whole _) aM (Memref.isWhole_whole _)
          cc0_scratch1 cc0_scratch2 cc0_scratch3 cc0_scratch4 cc0_scratch5 cc0_scratch6 c v50 v51) Q) := by
  rw [k0_part10_eq_skeleton]; unfold k0_part10_skel
  simp only [Prog.lift, Prog.bind_op, Prog.bind_ret, Prog.pure_eq_ret]
  iintro HL Hk
  iapply (recv_step m ρ K c 5 4 rfl 9 4 5 rfl rfl (by decide) _ (by exact rfl) _ _ (by exact rfl)) $$ HL
  iintro ⟨HL, Hg5⟩
  ihave ⟨Hh9, Hl9, Hl10, Hl11⟩ := (Entails.of_eq (cut_9 m ρ c)) $$ Hg5
  iapply (send_step m ρ K c _ 9 (dev_9 c) 9 10 5 rfl rfl _ _ _ _ rfl rfl rfl rfl _ _ _ _ _ rfl rfl (by exact rfl)) $$ [HL Hl9]
  · isplitl [HL] <;> iassumption
  iintro HL
  iapply (send_step m ρ K c _ 10 (dev_10 c) 10 11 5 rfl rfl _ _ _ _ rfl rfl rfl rfl _ _ _ _ _ rfl rfl (by exact rfl)) $$ [HL Hl10]
  · isplitl [HL] <;> iassumption
  iintro HL
  rw [wp_ret]; imodintro
  iapply Hk
  isplitl [HL]; · iexact HL
  isplitl [Hh9]; · iexact Hh9
  iexact Hl11

/-- Part 11 issues copies 11 and 12 and stores product 5. -/
theorem part11 (c : Dev nD) (v24 v27 v30 v51 : BitVec 32) (Q : (PUnit) → sProp 𝕄) :
    iprop(Led m ρ K c 11 5 ∗ Gem m ρ c 5 ∗ lend m ρ c 11 ∗ lend m ρ c 12 ∗ held m ρ c 9)
      ⊢ iprop((∀ r, (Led m ρ K c 13 5 ∗ Gem m ρ c 6) -∗ Q r)
        -∗ WP c (k0_part11 xM (Memref.isWhole_whole _) wM (Memref.isWhole_whole _) oM (Memref.isWhole_whole _) aM (Memref.isWhole_whole _)
          cc0_scratch1 cc0_scratch2 cc0_scratch3 cc0_scratch4 cc0_scratch5 cc0_scratch6 c v24 v27 v30 v51) Q) := by
  rw [k0_part11_eq_skeleton]; unfold k0_part11_skel
  simp only [Prog.lift, Prog.bind_op, Prog.bind_ret, Prog.pure_eq_ret]
  iintro ⟨HL, HG, Hl11, Hl12, Hh9⟩ Hk
  iapply (send_step m ρ K c _ 11 (dev_11 c) 11 12 5 rfl rfl _ _ _ _ rfl rfl rfl rfl _ _ _ _ _ rfl rfl (by exact rfl)) $$ [HL Hl11]
  · isplitl [HL] <;> iassumption
  iintro HL
  iapply (send_step m ρ K c _ 12 (dev_12 c) 12 13 5 rfl rfl _ _ _ _ rfl rfl rfl rfl _ _ _ _ _ rfl rfl (by exact rfl)) $$ [HL Hl12]
  · isplitl [HL] <;> iassumption
  iintro HL
  iapply (prod_step m ρ c 5 9 9 rfl rfl 5 6 rfl rfl _ (off_9 c) k0_pay7 rfl _ _ _) $$ [HG Hh9]
  · isplitl [HG] <;> iassumption
  iintro HG
  rw [wp_ret]; imodintro
  iapply Hk
  isplitl [HL]; · iexact HL
  iexact HG

/-- Part 12 waits for arrivals 5 and 6 and issues copy 13. -/
theorem part12 (c : Dev nD) (v40 v51 : BitVec 32) (Q : (PUnit) → sProp 𝕄) :
    iprop(Led m ρ K c 13 5)
      ⊢ iprop((∀ r, (Led m ρ K c 14 7 ∗ hk m ρ c 14 1 ∗ held m ρ c 4 ∗ lend m ρ c 14) -∗ Q r)
        -∗ WP c (k0_part12 xM (Memref.isWhole_whole _) wM (Memref.isWhole_whole _) oM (Memref.isWhole_whole _) aM (Memref.isWhole_whole _)
          cc0_scratch1 cc0_scratch2 cc0_scratch3 cc0_scratch4 cc0_scratch5 cc0_scratch6 c v40 v51) Q) := by
  rw [k0_part12_eq_skeleton]; unfold k0_part12_skel
  simp only [Prog.lift, Prog.bind_op, Prog.bind_ret, Prog.pure_eq_ret]
  iintro HL Hk
  iapply (recv_step m ρ K c 7 5 rfl 13 5 6 rfl rfl (by decide) _ (by exact rfl) _ _ (by exact rfl)) $$ HL
  iintro ⟨HL, Hg7⟩
  ihave ⟨Hl13, Hk14_1⟩ := (Entails.of_eq (cut_14a m ρ c)) $$ Hg7
  iapply (send_step m ρ K c _ 13 (dev_13 c) 13 14 6 rfl rfl _ _ _ _ rfl rfl rfl rfl _ _ _ _ _ rfl rfl (by exact rfl)) $$ [HL Hl13]
  · isplitl [HL] <;> iassumption
  iintro HL
  iapply (recv_step m ρ K c 6 6 rfl 14 6 7 rfl rfl (by decide) _ (by exact rfl) _ _ (by exact rfl)) $$ HL
  iintro ⟨HL, Hg6⟩
  ihave ⟨Hh4, Hl14⟩ := (Entails.of_eq (cut_4 m ρ c)) $$ Hg6
  rw [wp_ret]; imodintro
  iapply Hk
  isplitl [HL]; · iexact HL
  isplitl [Hk14_1]; · iexact Hk14_1
  isplitl [Hh4]; · iexact Hh4
  iexact Hl14

/-- Part 13 issues copy 14 and stores product 6. -/
theorem part13 (c : Dev nD) (v24 v27 v30 v40 v51 : BitVec 32) (Q : (Σ' (v376 : BitVec 32), BitVec 32) → sProp 𝕄) :
    iprop(Led m ρ K c 14 7 ∗ Gem m ρ c 6 ∗ lend m ρ c 14 ∗ held m ρ c 4)
      ⊢ iprop((∀ r, (Led m ρ K c 15 7 ∗ Gem m ρ c 7) -∗ Q r)
        -∗ WP c (k0_part13 xM (Memref.isWhole_whole _) wM (Memref.isWhole_whole _) oM (Memref.isWhole_whole _) aM (Memref.isWhole_whole _)
          cc0_scratch1 cc0_scratch2 cc0_scratch3 cc0_scratch4 cc0_scratch5 cc0_scratch6 c v24 v27 v30 v40 v51) Q) := by
  rw [k0_part13_eq_skeleton]; unfold k0_part13_skel
  simp only [Prog.lift, Prog.bind_op, Prog.bind_ret, Prog.pure_eq_ret]
  iintro ⟨HL, HG, Hl14, Hh4⟩ Hk
  iapply (send_step m ρ K c _ 14 (dev_14 c) 14 15 7 rfl rfl _ _ _ _ rfl rfl rfl rfl _ _ _ _ _ rfl rfl (by exact rfl)) $$ [HL Hl14]
  · isplitl [HL] <;> iassumption
  iintro HL
  iapply (prod_step m ρ c 6 4 4 rfl rfl 6 7 rfl rfl _ (off_4 c) k0_pay8 rfl _ _ _) $$ [HG Hh4]
  · isplitl [HG] <;> iassumption
  iintro HG
  rw [wp_ret]; imodintro
  iapply Hk
  isplitl [HL]; · iexact HL
  iexact HG

end Cert.Gather
-- ==== Proof.PartsB.lean ====
/-
# The body's parts: the products and transfers between

Each theorem runs one part of the body: what it takes, and what is there after it.
-/
module

public import proofs.«01_k».proof.Proof.Start

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × Cx → ℕ)

/-- Part 14 waits for arrival 7, issues copy 15 and loads the operands of product 7. -/
theorem part14 (c : Dev nD) (v24 v27 v30 v40 v376 c0_i32_340 : BitVec 32) (Q : (Σ' (v404 : BitVec 32) (v406 : FVec F S256x4096 .bf16), Vec F S4096x512 .bf16) → sProp 𝕄) :
    iprop(Led m ρ K c 15 7 ∗ Gem m ρ c 7 ∗ hk m ρ c 14 1)
      ⊢ iprop((∀ r, (⌜r.2.1 = k0_pay9 (slab m ρ (org 14 c)) ∧ r.2.2 = wstg m ρ c⌝ ∗ Led m ρ K c 16 8 ∗ Gem m ρ c 7 ∗ held m ρ c 14) -∗ Q r)
        -∗ WP c (k0_part14 xM (Memref.isWhole_whole _) wM (Memref.isWhole_whole _) oM (Memref.isWhole_whole _) aM (Memref.isWhole_whole _)
          cc0_scratch1 cc0_scratch2 cc0_scratch3 cc0_scratch4 cc0_scratch5 cc0_scratch6 c v24 v27 v30 v40 v376 c0_i32_340) Q) := by
  rw [k0_part14_eq_skeleton]; unfold k0_part14_skel
  simp only [Prog.lift, Prog.bind_op, Prog.bind_ret, Prog.pure_eq_ret]
  iintro ⟨HL, HG, Hk14_1⟩ Hk
  iapply (recv_step m ρ K c 8 7 rfl 15 7 8 rfl rfl (by decide) _ (by exact rfl) _ _ (by exact rfl)) $$ HL
  iintro ⟨HL, Hg8⟩
  ihave ⟨Hl15, Hk14_2⟩ := (Entails.of_eq (cut_14b m ρ c)) $$ Hg8
  ihave Hh14 := (Entails.of_eq (join_14 m ρ c).symm) $$ [Hk14_1 Hk14_2]
  · isplitl [Hk14_1] <;> iassumption
  iapply (send_step m ρ K c _ 15 (dev_15 c) 15 16 8 rfl rfl _ _ _ _ rfl rfl rfl rfl _ _ _ _ _ rfl rfl (by exact rfl)) $$ [HL Hl15]
  · isplitl [HL] <;> iassumption
  iintro HL
  iapply (ld_slot m ρ c 14 14 rfl _) $$ Hh14
  iintro Hh14
  iapply (ld_w m ρ c 7 _) $$ HG
  iintro HG
  rw [wp_ret]; imodintro
  iapply Hk
  isplitr; · (ipureintro; exact ⟨rfl, rfl⟩)
  isplitl [HL]; · iexact HL
  isplitl [HG]; · iexact HG
  iexact Hh14

/-- Part 15 waits for arrival 8, issues copy 16 and stores product 7. -/
theorem part15 (c : Dev nD) (v24 v30 v50 v404 : BitVec 32) (Q : (Σ' (v433 : BitVec 32) (v434 : BitVec 1), BitVec 32) → sProp 𝕄) :
    iprop(Led m ρ K c 16 8 ∗ Gem m ρ c 7 ∗ held m ρ c 14)
      ⊢ iprop((∀ r, (Led m ρ K c 17 9 ∗ Gem m ρ c 8 ∗ held m ρ c 10) -∗ Q r)
        -∗ WP c (k0_part15 xM (Memref.isWhole_whole _) wM (Memref.isWhole_whole _) oM (Memref.isWhole_whole _) aM (Memref.isWhole_whole _)
          cc0_scratch1 cc0_scratch2 cc0_scratch3 cc0_scratch4 cc0_scratch5 cc0_scratch6 c v24 v30 v50 v404 (k0_pay9 (slab m ρ (org 14 c))) (wstg m ρ c)) Q) := by
  rw [k0_part15_eq_skeleton]; unfold k0_part15_skel
  simp only [Prog.lift, Prog.bind_op, Prog.bind_ret, Prog.pure_eq_ret]
  iintro ⟨HL, HG, Hh14⟩ Hk
  iapply (ld_o m ρ c 7 _) $$ HG
  iintro %v HG
  iapply (st_o m ρ c 7 14 rfl 7 8 rfl rfl _ (off_14 c) _ (k0_pay10 (k0_pay9 (slab m ρ (org 14 c))) (wstg m ρ c)) rfl) $$ [HG Hh14]
  · isplitl [HG] <;> iassumption
  iintro HG
  iapply (recv_step m ρ K c 9 8 rfl 16 8 9 rfl rfl (by decide) _ (by exact rfl) _ _ (by exact rfl)) $$ HL
  iintro ⟨HL, Hg9⟩
  ihave ⟨Hh10, Hl16⟩ := (Entails.of_eq (cut_10 m ρ c)) $$ Hg9
  iapply (send_step m ρ K c _ 16 (dev_16 c) 16 17 9 rfl rfl _ _ _ _ rfl rfl rfl rfl _ _ _ _ _ rfl rfl (by exact rfl)) $$ [HL Hl16]
  · isplitl [HL] <;> iassumption
  iintro HL
  rw [wp_ret]; imodintro
  iapply Hk
  isplitl [HL]; · iexact HL
  isplitl [HG]; · iexact HG
  iexact Hh10

/-- Part 16 waits for arrival 9 and stores product 8. -/
theorem part16 (c : Dev nD) (v24 v27 v30 v51 v433 v436 : BitVec 32) (v434 : BitVec 1) (Q : (Σ' (v466 : BitVec 32), BitVec 32) → sProp 𝕄) :
    iprop(Led m ρ K c 17 9 ∗ Gem m ρ c 8 ∗ held m ρ c 10)
      ⊢ iprop((∀ r, (Led m ρ K c 17 10 ∗ Gem m ρ c 9 ∗ held m ρ c 12) -∗ Q r)
        -∗ WP c (k0_part16 xM (Memref.isWhole_whole _) wM (Memref.isWhole_whole _) oM (Memref.isWhole_whole _) aM (Memref.isWhole_whole _)
          cc0_scratch1 cc0_scratch2 cc0_scratch3 cc0_scratch4 cc0_scratch5 cc0_scratch6 c v24 v27 v30 v51 v433 v434 v436) Q) := by
  rw [k0_part16_eq_skeleton]; unfold k0_part16_skel
  simp only [Prog.lift, Prog.bind_op, Prog.bind_ret, Prog.pure_eq_ret]
  iintro ⟨HL, HG, Hh10⟩ Hk
  iapply (prod_step m ρ c 8 10 10 rfl rfl 8 9 rfl rfl _ (off_10 c) k0_pay11 rfl _ _ _) $$ [HG Hh10]
  · isplitl [HG] <;> iassumption
  iintro HG
  iapply (recv_step m ρ K c 4 9 rfl 17 9 10 rfl rfl (by decide) _ (by exact rfl) _ _ (by exact rfl)) $$ HL
  iintro ⟨HL, Hg4⟩
  ihave Hh12 := (Entails.of_eq (cut_12 m ρ c)) $$ Hg4
  rw [wp_ret]; imodintro
  iapply Hk
  isplitl [HL]; · iexact HL
  isplitl [HG]; · iexact HG
  iexact Hh12

/-- Part 17 waits for arrival 10, issues copy 17 and stores product 9. -/
theorem part17 (c : Dev nD) (v50 v51 v466 c1_i32_421 : BitVec 32) (Q : (PUnit) → sProp 𝕄) :
    iprop(Led m ρ K c 17 10 ∗ Gem m ρ c 9 ∗ held m ρ c 12)
      ⊢ iprop((∀ r, (Led m ρ K c 18 11 ∗ Gem m ρ c 10 ∗ hk m ρ c 15 1) -∗ Q r)
        -∗ WP c (k0_part17 xM (Memref.isWhole_whole _) wM (Memref.isWhole_whole _) oM (Memref.isWhole_whole _) aM (Memref.isWhole_whole _)
          cc0_scratch1 cc0_scratch2 cc0_scratch3 cc0_scratch4 cc0_scratch5 cc0_scratch6 c v50 v51 v466 c1_i32_421) Q) := by
  rw [k0_part17_eq_skeleton]; unfold k0_part17_skel
  simp only [Prog.lift, Prog.bind_op, Prog.bind_ret, Prog.pure_eq_ret]
  iintro ⟨HL, HG, Hh12⟩ Hk
  iapply (prod_step m ρ c 9 12 12 rfl rfl 9 10 rfl rfl _ (off_12 c) k0_pay12 rfl _ _ _) $$ [HG Hh12]
  · isplitl [HG] <;> iassumption
  iintro HG
  iapply (recv_step m ρ K c 10 10 rfl 17 10 11 rfl rfl (by decide) _ (by exact rfl) _ _ (by exact rfl)) $$ HL
  iintro ⟨HL, Hg10⟩
  ihave ⟨Hl17, Hk15_1⟩ := (Entails.of_eq (cut_15a m ρ c)) $$ Hg10
  iapply (send_step m ρ K c _ 17 (dev_17 c) 17 18 11 rfl rfl _ _ _ _ rfl rfl rfl rfl _ _ _ _ _ rfl rfl (by exact rfl)) $$ [HL Hl17]
  · isplitl [HL] <;> iassumption
  iintro HL
  rw [wp_ret]; imodintro
  iapply Hk
  isplitl [HL]; · iexact HL
  isplitl [HG]; · iexact HG
  iexact Hk15_1

/-- Part 18 waits for arrival 11 and issues copy 18. -/
theorem part18 (c : Dev nD) (v24 v27 v30 v50 v51 : BitVec 32) (Q : (BitVec 32) → sProp 𝕄) :
    iprop(Led m ρ K c 18 11 ∗ hk m ρ c 15 1)
      ⊢ iprop((∀ r, (Led m ρ K c 19 12 ∗ held m ρ c 15) -∗ Q r)
        -∗ WP c (k0_part18 xM (Memref.isWhole_whole _) wM (Memref.isWhole_whole _) oM (Memref.isWhole_whole _) aM (Memref.isWhole_whole _)
          cc0_scratch1 cc0_scratch2 cc0_scratch3 cc0_scratch4 cc0_scratch5 cc0_scratch6 c v24 v27 v30 v50 v51) Q) := by
  rw [k0_part18_eq_skeleton]; unfold k0_part18_skel
  simp only [Prog.lift, Prog.bind_op, Prog.bind_ret, Prog.pure_eq_ret]
  iintro ⟨HL, Hk15_1⟩ Hk
  iapply (recv_step m ρ K c 11 11 rfl 18 11 12 rfl rfl (by decide) _ (by exact rfl) _ _ (by exact rfl)) $$ HL
  iintro ⟨HL, Hg11⟩
  ihave ⟨Hl18, Hk15_2⟩ := (Entails.of_eq (cut_15b m ρ c)) $$ Hg11
  ihave Hh15 := (Entails.of_eq (join_15 m ρ c).symm) $$ [Hk15_1 Hk15_2]
  · isplitl [Hk15_1] <;> iassumption
  iapply (send_step m ρ K c _ 18 (dev_18 c) 18 19 12 rfl rfl _ _ _ _ rfl rfl rfl rfl _ _ _ _ _ rfl rfl (by exact rfl)) $$ [HL Hl18]
  · isplitl [HL] <;> iassumption
  iintro HL
  rw [wp_ret]; imodintro
  iapply Hk
  isplitl [HL]; · iexact HL
  iexact Hh15

/-- Part 19 waits for arrival 12, issues copy 19 and stores product 10. -/
theorem part19 (c : Dev nD) (v40 v522 : BitVec 32) (Q : (BitVec 32) → sProp 𝕄) :
    iprop(Led m ρ K c 19 12 ∗ Gem m ρ c 10 ∗ held m ρ c 15)
      ⊢ iprop((∀ r, (Led m ρ K c 20 13 ∗ Gem m ρ c 11 ∗ hk m ρ c 5 1) -∗ Q r)
        -∗ WP c (k0_part19 xM (Memref.isWhole_whole _) wM (Memref.isWhole_whole _) oM (Memref.isWhole_whole _) aM (Memref.isWhole_whole _)
          cc0_scratch1 cc0_scratch2 cc0_scratch3 cc0_scratch4 cc0_scratch5 cc0_scratch6 c v40 v522) Q) := by
  rw [k0_part19_eq_skeleton]; unfold k0_part19_skel
  simp only [Prog.lift, Prog.bind_op, Prog.bind_ret, Prog.pure_eq_ret]
  iintro ⟨HL, HG, Hh15⟩ Hk
  iapply (prod_step m ρ c 10 15 15 rfl rfl 10 11 rfl rfl _ (off_15 c) k0_pay13 rfl _ _ _) $$ [HG Hh15]
  · isplitl [HG] <;> iassumption
  iintro HG
  iapply (recv_step m ρ K c 13 12 rfl 19 12 13 rfl rfl (by decide) _ (by exact rfl) _ _ (by exact rfl)) $$ HL
  iintro ⟨HL, Hg13⟩
  ihave ⟨Hl19, Hk5_1⟩ := (Entails.of_eq (cut_5a m ρ c)) $$ Hg13
  iapply (send_step m ρ K c _ 19 (dev_19 c) 19 20 13 rfl rfl _ _ _ _ rfl rfl rfl rfl _ _ _ _ _ rfl rfl (by exact rfl)) $$ [HL Hl19]
  · isplitl [HL] <;> iassumption
  iintro HL
  rw [wp_ret]; imodintro
  iapply Hk
  isplitl [HL]; · iexact HL
  isplitl [HG]; · iexact HG
  iexact Hk5_1

/-- Part 20 waits for arrival 13 and stores product 11. -/
theorem part20 (c : Dev nD) (v24 v27 v30 v50 v549 : BitVec 32) (Q : (PUnit) → sProp 𝕄) :
    iprop(Led m ρ K c 20 13 ∗ Gem m ρ c 11 ∗ hk m ρ c 5 1)
      ⊢ iprop((∀ r, (Led m ρ K c 20 14 ∗ Gem m ρ c 12) -∗ Q r)
        -∗ WP c (k0_part20 xM (Memref.isWhole_whole _) wM (Memref.isWhole_whole _) oM (Memref.isWhole_whole _) aM (Memref.isWhole_whole _)
          cc0_scratch1 cc0_scratch2 cc0_scratch3 cc0_scratch4 cc0_scratch5 cc0_scratch6 c v24 v27 v30 v50 v549) Q) := by
  rw [k0_part20_eq_skeleton]; unfold k0_part20_skel
  simp only [Prog.lift, Prog.bind_op, Prog.bind_ret, Prog.pure_eq_ret]
  iintro ⟨HL, HG, Hk5_1⟩ Hk
  iapply (recv_step m ρ K c 15 13 rfl 20 13 14 rfl rfl (by decide) _ (by exact rfl) _ _ (by exact rfl)) $$ HL
  iintro ⟨HL, Hg15⟩
  ihave Hh5 := (Entails.of_eq (join_5 m ρ c)) $$ [Hg15 Hk5_1]
  · isplitl [Hg15] <;> iassumption
  iapply (prod_step m ρ c 11 5 5 rfl rfl 11 12 rfl rfl _ (off_5 c) k0_pay14 rfl _ _ _) $$ [HG Hh5]
  · isplitl [HG] <;> iassumption
  iintro HG
  rw [wp_ret]; imodintro
  iapply Hk
  isplitl [HL]; · iexact HL
  iexact HG

/-- Part 21 waits for arrivals 14 and 15 and computes product 12. -/
theorem part21 (c : Dev nD) (v24 v27 v30 v40 : BitVec 32) (Q : (Σ' (v601 : BitVec 32), FVec F S256x512 .f32) → sProp 𝕄) :
    iprop(Led m ρ K c 20 14 ∗ Gem m ρ c 12)
      ⊢ iprop((∀ r, (⌜r.2 = k0_pay15 (slab m ρ (org 6 c)) (wstg m ρ c)⌝ ∗ Led m ρ K c 20 16 ∗ Gem m ρ c 12 ∗ held m ρ c 6) -∗ Q r)
        -∗ WP c (k0_part21 xM (Memref.isWhole_whole _) wM (Memref.isWhole_whole _) oM (Memref.isWhole_whole _) aM (Memref.isWhole_whole _)
          cc0_scratch1 cc0_scratch2 cc0_scratch3 cc0_scratch4 cc0_scratch5 cc0_scratch6 c v24 v27 v30 v40) Q) := by
  rw [k0_part21_eq_skeleton]; unfold k0_part21_skel
  simp only [Prog.lift, Prog.bind_op, Prog.bind_ret, Prog.pure_eq_ret]
  iintro ⟨HL, HG⟩ Hk
  iapply (recv_step m ρ K c 16 14 rfl 20 14 15 rfl rfl (by decide) _ (by exact rfl) _ _ (by exact rfl)) $$ HL
  iintro ⟨HL, Hg16⟩
  iapply (recv_step m ρ K c 14 15 rfl 20 15 16 rfl rfl (by decide) _ (by exact rfl) _ _ (by exact rfl)) $$ HL
  iintro ⟨HL, Hg14⟩
  ihave Hh6 := (Entails.of_eq (join_6 m ρ c)) $$ [Hg14 Hg16]
  · isplitl [Hg14] <;> iassumption
  iapply (ld_slot m ρ c 6 6 rfl _) $$ Hh6
  iintro Hh6
  iapply (ld_w m ρ c 12 _) $$ HG
  iintro HG
  iapply (ld_o m ρ c 12 _) $$ HG
  iintro %v HG
  rw [wp_ret]; imodintro
  iapply Hk
  isplitr; · (ipureintro; exact rfl)
  isplitl [HL]; · iexact HL
  isplitl [HG]; · iexact HG
  iexact Hh6

/-- Part 22 waits for arrival 16 and stores products 12 and 13. -/
theorem part22 (c : Dev nD) (v24 v27 v30 v51 : BitVec 32) (Q : (PUnit) → sProp 𝕄) :
    iprop(Led m ρ K c 20 16 ∗ Gem m ρ c 12 ∗ held m ρ c 6)
      ⊢ iprop((∀ r, (Led m ρ K c 20 17 ∗ Gem m ρ c 14) -∗ Q r)
        -∗ WP c (k0_part22 xM (Memref.isWhole_whole _) wM (Memref.isWhole_whole _) oM (Memref.isWhole_whole _) aM (Memref.isWhole_whole _)
          cc0_scratch1 cc0_scratch2 cc0_scratch3 cc0_scratch4 cc0_scratch5 cc0_scratch6 c v24 v27 v30 v51 (k0_pay15 (slab m ρ (org 6 c)) (wstg m ρ c))) Q) := by
  rw [k0_part22_eq_skeleton]; unfold k0_part22_skel
  simp only [Prog.lift, Prog.bind_op, Prog.bind_ret, Prog.pure_eq_ret]
  iintro ⟨HL, HG, Hh6⟩ Hk
  iapply (st_o m ρ c 12 6 rfl 12 13 rfl rfl _ (off_6 c) _ (k0_pay15 (slab m ρ (org 6 c)) (wstg m ρ c)) rfl) $$ [HG Hh6]
  · isplitl [HG] <;> iassumption
  iintro HG
  iapply (recv_step m ρ K c 12 16 rfl 20 16 17 rfl rfl (by decide) _ (by exact rfl) _ _ (by exact rfl)) $$ HL
  iintro ⟨HL, Hg12⟩
  ihave Hh13 := (Entails.of_eq (cut_13 m ρ c)) $$ Hg12
  iapply (prod_step m ρ c 13 13 13 rfl rfl 13 14 rfl rfl _ (off_13 c) k0_pay16 rfl _ _ _) $$ [HG Hh13]
  · isplitl [HG] <;> iassumption
  iintro HG
  rw [wp_ret]; imodintro
  iapply Hk
  isplitl [HL]; · iexact HL
  iexact HG

/-- Part 23 waits for arrivals 17 and 18 and issues copy 20. -/
theorem part23 (c : Dev nD) (v30 v50 : BitVec 32) (Q : (Σ' (v664 : BitVec 32), BitVec 32) → sProp 𝕄) :
    iprop(Led m ρ K c 20 17)
      ⊢ iprop((∀ r, (Led m ρ K c 21 19 ∗ held m ρ c 11) -∗ Q r)
        -∗ WP c (k0_part23 xM (Memref.isWhole_whole _) wM (Memref.isWhole_whole _) oM (Memref.isWhole_whole _) aM (Memref.isWhole_whole _)
          cc0_scratch1 cc0_scratch2 cc0_scratch3 cc0_scratch4 cc0_scratch5 cc0_scratch6 c v30 v50) Q) := by
  rw [k0_part23_eq_skeleton]; unfold k0_part23_skel
  simp only [Prog.lift, Prog.bind_op, Prog.bind_ret, Prog.pure_eq_ret]
  iintro HL Hk
  iapply (recv_step m ρ K c 17 17 rfl 20 17 18 rfl rfl (by decide) _ (by exact rfl) _ _ (by exact rfl)) $$ HL
  iintro ⟨HL, Hg17⟩
  iapply (recv_step m ρ K c 18 18 rfl 20 18 19 rfl rfl (by decide) _ (by exact rfl) _ _ (by exact rfl)) $$ HL
  iintro ⟨HL, Hg18⟩
  ihave ⟨Hh11, Hl20⟩ := (Entails.of_eq (join_11 m ρ c)) $$ [Hg17 Hg18]
  · isplitl [Hg17] <;> iassumption
  iapply (send_step m ρ K c _ 20 (dev_20 c) 20 21 19 rfl rfl _ _ _ _ rfl rfl rfl rfl _ _ _ _ _ rfl rfl (by exact rfl)) $$ [HL Hl20]
  · isplitl [HL] <;> iassumption
  iintro HL
  rw [wp_ret]; imodintro
  iapply Hk
  isplitl [HL]; · iexact HL
  iexact Hh11

/-- Part 24 waits for arrival 19 and stores product 14. -/
theorem part24 (c : Dev nD) (v24 v27 v40 v50 v664 c8_i32_619 : BitVec 32) (Q : (PUnit) → sProp 𝕄) :
    iprop(Led m ρ K c 21 19 ∗ Gem m ρ c 14 ∗ held m ρ c 11)
      ⊢ iprop((∀ r, (Led m ρ K c 21 20 ∗ Gem m ρ c 15 ∗ got m ρ c 19) -∗ Q r)
        -∗ WP c (k0_part24 xM (Memref.isWhole_whole _) wM (Memref.isWhole_whole _) oM (Memref.isWhole_whole _) aM (Memref.isWhole_whole _)
          cc0_scratch1 cc0_scratch2 cc0_scratch3 cc0_scratch4 cc0_scratch5 cc0_scratch6 c v24 v27 v40 v50 v664 c8_i32_619) Q) := by
  rw [k0_part24_eq_skeleton]; unfold k0_part24_skel
  simp only [Prog.lift, Prog.bind_op, Prog.bind_ret, Prog.pure_eq_ret]
  iintro ⟨HL, HG, Hh11⟩ Hk
  iapply (prod_step m ρ c 14 11 11 rfl rfl 14 15 rfl rfl _ (off_11 c) k0_pay17 rfl _ _ _) $$ [HG Hh11]
  · isplitl [HG] <;> iassumption
  iintro HG
  iapply (recv_step m ρ K c 19 19 rfl 21 19 20 rfl rfl (by decide) _ (by exact rfl) _ _ (by exact rfl)) $$ HL
  iintro ⟨HL, Hg19⟩
  rw [wp_ret]; imodintro
  iapply Hk
  isplitl [HL]; · iexact HL
  isplitl [HG]; · iexact HG
  iexact Hg19

end Cert.Gather
-- ==== Proof.PartsC.lean ====
/-
# The body's parts: the last product and the send semaphores

Each theorem runs one part of the body: what it takes, and what is there after it.
-/
module

public import proofs.«01_k».proof.Proof.Start

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × Cx → ℕ)

/-- Part 25 stores the last product, waits for the last arrival and for sends 0 and 1 to have left. -/
theorem part25 (c : Dev nD) (v601 : BitVec 32) (Q : (PUnit) → sProp 𝕄) :
    iprop(Led m ρ K c 21 20 ∗ (bigSep Finset.univ fun t => atPos ER (snd t c) 0 ∅ 0) ∗ Gem m ρ c 15 ∗ got m ρ c 19)
      ⊢ iprop((∀ r, (Ret m ρ K c 2 ∗ (bigSep Finset.univ fun t => semVal (rcv t c) 0) ∗ Gem m ρ c 16) -∗ Q r)
        -∗ WP c (k0_part25 xM (Memref.isWhole_whole _) wM (Memref.isWhole_whole _) oM (Memref.isWhole_whole _) aM (Memref.isWhole_whole _)
          cc0_scratch1 cc0_scratch2 cc0_scratch3 cc0_scratch4 cc0_scratch5 cc0_scratch6 c v601) Q) := by
  rw [k0_part25_eq_skeleton]; unfold k0_part25_skel
  simp only [Prog.lift, Prog.bind_op, Prog.bind_ret, Prog.pure_eq_ret]
  iintro ⟨HL, Hat, HG, Hg19⟩ Hk
  iapply (recv_step m ρ K c 20 20 rfl 21 20 21 rfl rfl (by decide) _ (by exact rfl) _ _ (by exact rfl)) $$ HL
  iintro ⟨HL, Hg20⟩
  ihave Hh7 := (Entails.of_eq (join_7 m ρ c)) $$ [Hg19 Hg20]
  · isplitl [Hg19] <;> iassumption
  iapply (prod_step m ρ c 15 7 7 rfl rfl 15 16 rfl rfl _ (off_7 c) k0_pay18 rfl _ _ _) $$ [HG Hh7]
  · isplitl [HG] <;> iassumption
  iintro HG
  ihave ⟨HT, Hz⟩ := (turn m ρ K c) $$ [HL Hat]
  · isplitl [HL] <;> iassumption
  iapply (back_step m ρ K c 0 0 1 rfl rfl _ (by exact rfl) _ _ (by exact rfl)) $$ HT
  iintro HT
  iapply (back_step m ρ K c 1 1 2 rfl rfl _ (by exact rfl) _ _ (by exact rfl)) $$ HT
  iintro HT
  rw [wp_ret]; imodintro
  iapply Hk
  isplitl [HT]; · iexact HT
  isplitl [Hz]; · iexact Hz
  iexact HG

/-- Part 26 waits for sends 2 to 4 to have left. -/
theorem part26 (c : Dev nD) (Q : (PUnit) → sProp 𝕄) :
    iprop(Ret m ρ K c 2)
      ⊢ iprop((∀ r, (Ret m ρ K c 5) -∗ Q r)
        -∗ WP c (k0_part26 xM (Memref.isWhole_whole _) wM (Memref.isWhole_whole _) oM (Memref.isWhole_whole _) aM (Memref.isWhole_whole _)
          cc0_scratch1 cc0_scratch2 cc0_scratch3 cc0_scratch4 cc0_scratch5 cc0_scratch6) Q) := by
  rw [k0_part26_eq_skeleton]; unfold k0_part26_skel
  simp only [Prog.lift, Prog.bind_op, Prog.bind_ret, Prog.pure_eq_ret]
  iintro HT Hk
  iapply (back_step m ρ K c 2 2 3 rfl rfl _ (by exact rfl) _ _ (by exact rfl)) $$ HT
  iintro HT
  iapply (back_step m ρ K c 3 3 4 rfl rfl _ (by exact rfl) _ _ (by exact rfl)) $$ HT
  iintro HT
  iapply (back_step m ρ K c 4 4 5 rfl rfl _ (by exact rfl) _ _ (by exact rfl)) $$ HT
  iintro HT
  rw [wp_ret]; imodintro
  iapply Hk
  iexact HT

/-- Part 27 waits for sends 5 to 8 to have left. -/
theorem part27 (c : Dev nD) (Q : (PUnit) → sProp 𝕄) :
    iprop(Ret m ρ K c 5)
      ⊢ iprop((∀ r, (Ret m ρ K c 9) -∗ Q r)
        -∗ WP c (k0_part27 xM (Memref.isWhole_whole _) wM (Memref.isWhole_whole _) oM (Memref.isWhole_whole _) aM (Memref.isWhole_whole _)
          cc0_scratch1 cc0_scratch2 cc0_scratch3 cc0_scratch4 cc0_scratch5 cc0_scratch6) Q) := by
  rw [k0_part27_eq_skeleton]; unfold k0_part27_skel
  simp only [Prog.lift, Prog.bind_op, Prog.bind_ret, Prog.pure_eq_ret]
  iintro HT Hk
  iapply (back_step m ρ K c 5 5 6 rfl rfl _ (by exact rfl) _ _ (by exact rfl)) $$ HT
  iintro HT
  iapply (back_step m ρ K c 6 6 7 rfl rfl _ (by exact rfl) _ _ (by exact rfl)) $$ HT
  iintro HT
  iapply (back_step m ρ K c 7 7 8 rfl rfl _ (by exact rfl) _ _ (by exact rfl)) $$ HT
  iintro HT
  iapply (back_step m ρ K c 8 8 9 rfl rfl _ (by exact rfl) _ _ (by exact rfl)) $$ HT
  iintro HT
  rw [wp_ret]; imodintro
  iapply Hk
  iexact HT

/-- Part 28 waits for sends 9 to 12 to have left. -/
theorem part28 (c : Dev nD) (Q : (PUnit) → sProp 𝕄) :
    iprop(Ret m ρ K c 9)
      ⊢ iprop((∀ r, (Ret m ρ K c 13) -∗ Q r)
        -∗ WP c (k0_part28 xM (Memref.isWhole_whole _) wM (Memref.isWhole_whole _) oM (Memref.isWhole_whole _) aM (Memref.isWhole_whole _)
          cc0_scratch1 cc0_scratch2 cc0_scratch3 cc0_scratch4 cc0_scratch5 cc0_scratch6) Q) := by
  rw [k0_part28_eq_skeleton]; unfold k0_part28_skel
  simp only [Prog.lift, Prog.bind_op, Prog.bind_ret, Prog.pure_eq_ret]
  iintro HT Hk
  iapply (back_step m ρ K c 9 9 10 rfl rfl _ (by exact rfl) _ _ (by exact rfl)) $$ HT
  iintro HT
  iapply (back_step m ρ K c 10 10 11 rfl rfl _ (by exact rfl) _ _ (by exact rfl)) $$ HT
  iintro HT
  iapply (back_step m ρ K c 11 11 12 rfl rfl _ (by exact rfl) _ _ (by exact rfl)) $$ HT
  iintro HT
  iapply (back_step m ρ K c 12 12 13 rfl rfl _ (by exact rfl) _ _ (by exact rfl)) $$ HT
  iintro HT
  rw [wp_ret]; imodintro
  iapply Hk
  iexact HT

/-- Part 29 waits for sends 13 to 16 to have left. -/
theorem part29 (c : Dev nD) (Q : (PUnit) → sProp 𝕄) :
    iprop(Ret m ρ K c 13)
      ⊢ iprop((∀ r, (Ret m ρ K c 17) -∗ Q r)
        -∗ WP c (k0_part29 xM (Memref.isWhole_whole _) wM (Memref.isWhole_whole _) oM (Memref.isWhole_whole _) aM (Memref.isWhole_whole _)
          cc0_scratch1 cc0_scratch2 cc0_scratch3 cc0_scratch4 cc0_scratch5 cc0_scratch6) Q) := by
  rw [k0_part29_eq_skeleton]; unfold k0_part29_skel
  simp only [Prog.lift, Prog.bind_op, Prog.bind_ret, Prog.pure_eq_ret]
  iintro HT Hk
  iapply (back_step m ρ K c 13 13 14 rfl rfl _ (by exact rfl) _ _ (by exact rfl)) $$ HT
  iintro HT
  iapply (back_step m ρ K c 14 14 15 rfl rfl _ (by exact rfl) _ _ (by exact rfl)) $$ HT
  iintro HT
  iapply (back_step m ρ K c 15 15 16 rfl rfl _ (by exact rfl) _ _ (by exact rfl)) $$ HT
  iintro HT
  iapply (back_step m ρ K c 16 16 17 rfl rfl _ (by exact rfl) _ _ (by exact rfl)) $$ HT
  iintro HT
  rw [wp_ret]; imodintro
  iapply Hk
  iexact HT

/-- Part 30 waits for sends 17 to 19 to have left. -/
theorem part30 (c : Dev nD) (Q : (PUnit) → sProp 𝕄) :
    iprop(Ret m ρ K c 17)
      ⊢ iprop((∀ r, (Ret m ρ K c 20) -∗ Q r)
        -∗ WP c (k0_part30 xM (Memref.isWhole_whole _) wM (Memref.isWhole_whole _) oM (Memref.isWhole_whole _) aM (Memref.isWhole_whole _)
          cc0_scratch1 cc0_scratch2 cc0_scratch3 cc0_scratch4 cc0_scratch5 cc0_scratch6) Q) := by
  rw [k0_part30_eq_skeleton]; unfold k0_part30_skel
  simp only [Prog.lift, Prog.bind_op, Prog.bind_ret, Prog.pure_eq_ret]
  iintro HT Hk
  iapply (back_step m ρ K c 17 17 18 rfl rfl _ (by exact rfl) _ _ (by exact rfl)) $$ HT
  iintro HT
  iapply (back_step m ρ K c 18 18 19 rfl rfl _ (by exact rfl) _ _ (by exact rfl)) $$ HT
  iintro HT
  iapply (back_step m ρ K c 19 19 20 rfl rfl _ (by exact rfl) _ _ (by exact rfl)) $$ HT
  iintro HT
  rw [wp_ret]; imodintro
  iapply Hk
  iexact HT

end Cert.Gather
-- ==== Proof.Body.lean ====
/-
# The body

The first two parts, and the whole body put together from its parts.
-/
module

public import proofs.«01_k».proof.Proof.PartsA
public import proofs.«01_k».proof.Proof.PartsB
public import proofs.«01_k».proof.Proof.PartsC

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (rangeSet bigSep_rangeSet_empty rangeSet_univ)

variable {F : FTy → Type} [FloatOps F]

local notation "𝕄" => MT nD τ sig Unit (Elt F) ℕ UU ℕ

variable (m : (ℓ : Loc nD τ sig) → Buf (Elt F) ℓ) (ρ : Dev nD → PrngReg) (K : Dev nD × Cx → ℕ)

/-- A part, and then the rest. -/
theorem WP_bind (c : Dev nD) {α β : Type} (p : Prog (TpuEff nD τ sig (Elt F) Λ₀ .tc) α) (k : α → Prog (TpuEff nD τ sig (Elt F) Λ₀ .tc) β)
    (Q : β → sProp 𝕄) : WP c (p >>= k) Q = WP c p fun a => WP c (k a) Q := wp_bind ..

/-- A program that has ended. -/
theorem ret_step (c : Dev nD) {α : Type} (a : α) (Q : α → sProp 𝕄) : Q a ⊢ WP c (.ret a) Q := by
  unfold WP
  rw [wp_ret]
  iintro H; imodintro; iexact H

/-- The first part only computes words. -/
theorem part1 (c : Dev nD) (Q : _ → sProp 𝕄) :
    iprop(∀ r, ⌜r.1 = c⌝ -∗ Q r)
      ⊢ WP c (k0_part1 xM (Memref.isWhole_whole _) wM (Memref.isWhole_whole _) oM (Memref.isWhole_whole _) aM (Memref.isWhole_whole _)
          cc0_scratch1 cc0_scratch2 cc0_scratch3 cc0_scratch4 cc0_scratch5 cc0_scratch6) Q := by
  rw [k0_part1_eq_skeleton]; unfold k0_part1_skel
  simp only [Prog.lift, Prog.bind_op, Prog.bind_ret, Prog.pure_eq_ret, wp_deviceId]
  iintro Hk
  iapply (ret_step c _ _)
  iapply Hk
  ipureintro; rfl

/-- The three signals and the copy to slot 0. -/
theorem part2 (c : Dev nD) (v2 v24 v27 v30 v33 : BitVec 32) (v34 : BitVec 1) (f : (cc0_scratch0 : Ref sig .tc).ty.Contents (Elt F)) (Q : _ → sProp 𝕄) :
    iprop(recs m ρ K ∗ owing c (O₀ c) ∗ (dutyTok ER (bar (nb 0 c)) 0 (opp 0) ∗ dutyTok ER (bar (nb 1 c)) 0 (opp 1) ∗ dutyTok ER (bar (nb 2 c)) 0 (opp 2))
        ∗ bigSep Finset.univ (raw c) ∗ (((c : Thread nD τ).loc cc0_stg0_0) ↦{fullShare} xstg m ρ c) ∗ pts c 0 0 fullShare f)
      ⊢ iprop((∀ r, (⌜r.2.2.2 = SemArray.scalar (sig.barrier 0 rfl)⌝ ∗ owing c (Ow c 0) ∗ (((c : Thread nD τ).loc cc0_stg0_0) ↦{fullShare} xstg m ρ c)
          ∗ pts c 0 0 fullShare (comm m ρ c)) -∗ Q r)
        -∗ WP c (k0_part2 xM (Memref.isWhole_whole _) wM (Memref.isWhole_whole _) oM (Memref.isWhole_whole _) aM (Memref.isWhole_whole _)
          cc0_scratch1 cc0_scratch2 cc0_scratch3 cc0_scratch4 cc0_scratch5 cc0_scratch6 c v2 v24 v27 v30 v33 v34) Q) := by
  rw [k0_part2_eq_skeleton]; unfold k0_part2_skel
  simp only [semSignalWord, Prog.lift, Prog.bind_op, Prog.bind_ret, Prog.pure_eq_ret]
  iintro ⟨#HR, HO, ⟨Ht0, Ht1, Ht2⟩, Hrooms, Hx, H0⟩ Hk
  ihave ⟨Hr0, Hr1, Hr2⟩ := (Entails.of_eq (rooms_out (F := F) c)) $$ Hrooms
  iapply (sig_step m ρ K c _ 0 (dev_sig0 c) (O₀ c) (O₁ c) rfl _ (by exact rfl) _ (by decide)) $$ [HO Ht0 Hr0]
  · isplitr; · iexact HR
    isplitl [HO]; · iexact HO
    isplitl [Ht0] <;> iassumption
  iintro HO
  iapply (sig_step m ρ K c _ 1 (dev_sig1 c) (O₁ c) (O₂ c) rfl _ (by exact rfl) _ (by decide)) $$ [HO Ht1 Hr1]
  · isplitr; · iexact HR
    isplitl [HO]; · iexact HO
    isplitl [Ht1] <;> iassumption
  iintro HO
  iapply (sig_step m ρ K c _ 2 (dev_sig2 c) (O₂ c) (Ow c 0) rfl _ (by exact rfl) _ (by decide)) $$ [HO Ht2 Hr2]
  · isplitr; · iexact HR
    isplitl [HO]; · iexact HO
    isplitl [Ht2] <;> iassumption
  iintro HO
  iapply (own_step m ρ c f _ _) $$ [Hx H0]
  · isplitl [Hx] <;> iassumption
  iintro ⟨Hx, H0⟩
  iapply (ret_step c _ _)
  iapply Hk
  isplitr; · (ipureintro; rfl)
  isplitl [HO]; · iexact HO
  isplitl [Hx] <;> iassumption

/-- What the body takes on device `c`. -/
def Boot (c : Dev nD) : sProp 𝕄 :=
  iprop(recs m ρ K ∗ levAts L lv ∗ owing c (O₀ c) ∗ (dutyTok ER (bar (nb 0 c)) 0 (opp 0) ∗ dutyTok ER (bar (nb 1 c)) 0 (opp 1) ∗ dutyTok ER (bar (nb 2 c)) 0 (opp 2))
    ∗ cred (tallyAt (bar c) () 3) ∗ atPos ER (bar c) 0 ∅ 0 ∗ bigSep Finset.univ (toks c) ∗ bigSep Finset.univ (exp c)
    ∗ (bigSep Finset.univ fun t => atPos ER (snd t c) 0 ∅ 0)
    ∗ (((c : Thread nD τ).loc cc0_stg0_0) ↦{fullShare} xstg m ρ c) ∗ (((c : Thread nD τ).loc cc0_stg1_0) ↦{fullShare} wstg m ρ c)
    ∗ (∃ f, ((c : Thread nD τ).loc cc0_stg2_0) ↦{fullShare} f) ∗ (∃ f, ((c : Thread nD τ).loc cc0_scratch0) ↦{fullShare} f))

/-- What it leaves. -/
def Left (c : Dev nD) : sProp 𝕄 :=
  iprop(owing c 0 ∗ semVal (bar c) 0 ∗ (bigSep Finset.univ fun t => semVal (rcv t c) 0) ∗ (bigSep Finset.univ fun t => semVal (snd t c) 0)
    ∗ (((c : Thread nD τ).loc cc0_stg0_0) ↦{fullShare} xstg m ρ c) ∗ (((c : Thread nD τ).loc cc0_stg1_0) ↦{fullShare} wstg m ρ c)
    ∗ (((c : Thread nD τ).loc cc0_stg2_0) ↦{fullShare} outAt m ρ c) ∗ (((c : Thread nD τ).loc cc0_scratch0) ↦{fullShare} comm m ρ c))

/-- Before any product the output holds anything. -/
theorem gem_zero (c : Dev nD) :
    iprop((((c : Thread nD τ).loc cc0_stg1_0) ↦{fullShare} wstg m ρ c) ∗ (∃ f, ((c : Thread nD τ).loc cc0_stg2_0) ↦{fullShare} f)) ⊢ Gem m ρ c 0 := by
  unfold Gem
  rw [bigSep_rangeSet_empty (le_refl 0)]
  iintro ⟨Hw, %f, Ho⟩
  isplitl [Hw]; · iexact Hw
  isplitl [Ho]
  · iexists f
    isplitr
    · ipureintro
      rintro i ⟨p, hp, -⟩
      exact absurd hp (Nat.not_lt_zero _)
    iexact Ho
  iempintro

/-- After every product the output is complete. -/
theorem gem_all (c : Dev nD) :
    Gem m ρ c 16 ⊢ iprop((((c : Thread nD τ).loc cc0_stg1_0) ↦{fullShare} wstg m ρ c) ∗ (((c : Thread nD τ).loc cc0_stg2_0) ↦{fullShare} outAt m ρ c)
      ∗ bigSep Finset.univ (held m ρ c)) := by
  unfold Gem
  rw [rangeSet_univ]
  iintro ⟨Hw, ⟨%f, %hf, Ho⟩, Hs⟩
  have e : f = outAt m ρ c := funext fun i => hf i (by
    obtain ⟨p, hp⟩ := gord_surj c (rdev i)
    exact ⟨p, p.isLt, hp⟩)
  subst e
  isplitl [Hw]; · iexact Hw
  isplitl [Ho]; · iexact Ho
  iapply (Entails.of_eq (bigSep_univ_equiv (Equiv.ofBijective gord gord_bij) (held m ρ c)).symm)
  iexact Hs

/-- After the last wait everything is back. -/
theorem all_back (c : Dev nD) :
    iprop(Ret m ρ K c 21 ∗ bigSep Finset.univ (held m ρ c))
      ⊢ iprop(owing c 0 ∗ (bigSep Finset.univ fun t => semVal (snd t c) 0) ∗ (((c : Thread nD τ).loc cc0_scratch0) ↦{fullShare} comm m ρ c)) := by
  unfold Ret
  rw [rangeSet_univ, bigSep_sep', bigSep_sep']
  iintro ⟨⟨-, HO, -, Hz, Hl⟩, Hh⟩
  isplitl [HO]; · iexact HO
  isplitl [Hz]; · iexact Hz
  iapply (Entails.of_eq (parts m ρ c).symm)
  isplitl [Hh] <;> iassumption

set_option maxHeartbeats 1000000 in
/-- The body. -/
theorem body (c : Dev nD) (Q : PUnit → sProp 𝕄) :
    Boot m ρ K c
      ⊢ iprop((Left m ρ c -∗ Q ⟨⟩)
        -∗ WP c (cc0_body xM (Memref.isWhole_whole _) wM (Memref.isWhole_whole _) oM (Memref.isWhole_whole _) aM (Memref.isWhole_whole _)
          cc0_scratch1 cc0_scratch2 cc0_scratch3 cc0_scratch4 cc0_scratch5 cc0_scratch6) Q) := by
  rw [cc0_body_eq_skeleton]; unfold cc0_body_skel Boot
  iintro ⟨#HR, #Hlv, HO, Htk, Hc, Hab, Htoks, Hexp, Hat, Hx, Hw, Ho, ⟨%f0, Hs⟩⟩ Hk
  ihave HG := (gem_zero m ρ c) $$ [Hw Ho]
  · isplitl [Hw] <;> iassumption
  ihave ⟨H0, Hrooms⟩ := (rooms (F := F) c f0) $$ Hs
  rw [WP_bind]
  iapply (part1 c _)
  iintro %r %hr
  obtain ⟨d0, v2, v24, v27, v30, v33, v34⟩ := r
  obtain rfl : d0 = c := hr
  dsimp only
  rw [WP_bind]
  iapply (part2 m ρ K d0 _ _ _ _ _ _ f0 _) $$ [HO Htk Hrooms Hx H0]
  · isplitr; · iexact HR
    isplitl [HO]; · iexact HO
    isplitl [Htk]; · iexact Htk
    isplitl [Hrooms]; · iexact Hrooms
    isplitl [Hx] <;> iassumption
  iintro %r ⟨%hr, HO, Hx, H0⟩
  obtain ⟨v40, v50, v51, v52⟩ := r
  obtain rfl : v52 = SemArray.scalar (sig.barrier 0 rfl) := hr
  dsimp only
  ihave ⟨Hh0, Hl0, Hl1, Hl2⟩ := (Entails.of_eq (cut_0 m ρ d0)) $$ H0
  rw [WP_bind]
  iapply (part3 m ρ K d0 _ _ _ _) $$ [HO Hc Hab Htoks Hexp Hl0 Hl1]
  · isplitl [HO Hc Hab Htoks Hexp]
    · isplitr; · iexact HR
      isplitr; · iexact Hlv
      isplitl [HO]; · iexact HO
      isplitl [Hc]; · iexact Hc
      isplitl [Hab]; · iexact Hab
      isplitl [Htoks] <;> iassumption
    isplitl [Hl0] <;> iassumption
  iintro %r ⟨HL, Hzb⟩
  rw [WP_bind]
  iapply (part4 m ρ K d0 _ _ _) $$ [HL HG Hl2 Hh0]
  · isplitl [HL]; · iexact HL
    isplitl [HG]; · iexact HG
    isplitl [Hl2] <;> iassumption
  iintro %r ⟨HL, HG⟩
  rw [WP_bind]
  iapply (part5 m ρ K d0 _ _ _ _) $$ HL
  iintro %r ⟨HL, Hh2⟩
  rw [WP_bind]
  iapply (part6 m ρ K d0 _ _ _ _ _) $$ [HL HG Hh2]
  · isplitl [HL]; · iexact HL
    isplitl [HG] <;> iassumption
  iintro %r ⟨HL, HG, Hh8, Hl5, Hl12⟩
  rw [WP_bind]
  iapply (part7 m ρ K d0 _ _ _ _ _) $$ [HL HG Hl5 Hh8]
  · isplitl [HL]; · iexact HL
    isplitl [HG]; · iexact HG
    isplitl [Hl5] <;> iassumption
  iintro %r ⟨HL, HG⟩
  rw [WP_bind]
  iapply (part8 m ρ K d0 _ _ _) $$ HL
  iintro %r ⟨HL, Hh3, Hl8⟩
  rw [WP_bind]
  iapply (part9 m ρ K d0 _ _ _ _ _) $$ [HL HG Hl8 Hh3]
  · isplitl [HL]; · iexact HL
    isplitl [HG]; · iexact HG
    isplitl [Hl8] <;> iassumption
  iintro %r ⟨HL, HG⟩
  rw [WP_bind]
  iapply (part10 m ρ K d0 _ _ _) $$ HL
  iintro %r ⟨HL, Hh9, Hl11⟩
  rw [WP_bind]
  iapply (part11 m ρ K d0 _ _ _ _ _) $$ [HL HG Hl11 Hl12 Hh9]
  · isplitl [HL]; · iexact HL
    isplitl [HG]; · iexact HG
    isplitl [Hl11]; · iexact Hl11
    isplitl [Hl12] <;> iassumption
  iintro %r ⟨HL, HG⟩
  rw [WP_bind]
  iapply (part12 m ρ K d0 _ _ _) $$ HL
  iintro %r ⟨HL, Hk14_1, Hh4, Hl14⟩
  rw [WP_bind]
  iapply (part13 m ρ K d0 _ _ _ _ _ _) $$ [HL HG Hl14 Hh4]
  · isplitl [HL]; · iexact HL
    isplitl [HG]; · iexact HG
    isplitl [Hl14] <;> iassumption
  iintro %r ⟨HL, HG⟩
  obtain ⟨v376, w376⟩ := r
  dsimp only
  rw [WP_bind]
  iapply (part14 m ρ K d0 _ _ _ _ _ _ _) $$ [HL HG Hk14_1]
  · isplitl [HL]; · iexact HL
    isplitl [HG] <;> iassumption
  iintro %r ⟨%hr, HL, HG, Hh14⟩
  obtain ⟨v404, v406, v407⟩ := r
  obtain ⟨rfl, rfl⟩ : v406 = k0_pay9 (slab m ρ (org 14 d0)) ∧ v407 = wstg m ρ d0 := hr
  dsimp only
  rw [WP_bind]
  iapply (part15 m ρ K d0 _ _ _ _ _) $$ [HL HG Hh14]
  · isplitl [HL]; · iexact HL
    isplitl [HG] <;> iassumption
  iintro %r ⟨HL, HG, Hh10⟩
  obtain ⟨v433, v434, v436⟩ := r
  dsimp only
  rw [WP_bind]
  iapply (part16 m ρ K d0 _ _ _ _ _ _ _ _) $$ [HL HG Hh10]
  · isplitl [HL]; · iexact HL
    isplitl [HG] <;> iassumption
  iintro %r ⟨HL, HG, Hh12⟩
  obtain ⟨v466, w466⟩ := r
  dsimp only
  rw [WP_bind]
  iapply (part17 m ρ K d0 _ _ _ _ _) $$ [HL HG Hh12]
  · isplitl [HL]; · iexact HL
    isplitl [HG] <;> iassumption
  iintro %r ⟨HL, HG, Hk15_1⟩
  rw [WP_bind]
  iapply (part18 m ρ K d0 _ _ _ _ _ _) $$ [HL Hk15_1]
  · isplitl [HL] <;> iassumption
  iintro %r ⟨HL, Hh15⟩
  rw [WP_bind]
  iapply (part19 m ρ K d0 _ _ _) $$ [HL HG Hh15]
  · isplitl [HL]; · iexact HL
    isplitl [HG] <;> iassumption
  iintro %r ⟨HL, HG, Hk5_1⟩
  rw [WP_bind]
  iapply (part20 m ρ K d0 _ _ _ _ _ _) $$ [HL HG Hk5_1]
  · isplitl [HL]; · iexact HL
    isplitl [HG] <;> iassumption
  iintro %r ⟨HL, HG⟩
  rw [WP_bind]
  iapply (part21 m ρ K d0 _ _ _ _ _) $$ [HL HG]
  · isplitl [HL] <;> iassumption
  iintro %r ⟨%hr, HL, HG, Hh6⟩
  obtain ⟨v601, v606⟩ := r
  obtain rfl : v606 = k0_pay15 (slab m ρ (org 6 d0)) (wstg m ρ d0) := hr
  dsimp only
  rw [WP_bind]
  iapply (part22 m ρ K d0 _ _ _ _ _) $$ [HL HG Hh6]
  · isplitl [HL]; · iexact HL
    isplitl [HG] <;> iassumption
  iintro %r ⟨HL, HG⟩
  rw [WP_bind]
  iapply (part23 m ρ K d0 _ _ _) $$ HL
  iintro %r ⟨HL, Hh11⟩
  obtain ⟨v664, w664⟩ := r
  dsimp only
  rw [WP_bind]
  iapply (part24 m ρ K d0 _ _ _ _ _ _ _) $$ [HL HG Hh11]
  · isplitl [HL]; · iexact HL
    isplitl [HG] <;> iassumption
  iintro %r ⟨HL, HG, Hg19⟩
  rw [WP_bind]
  iapply (part25 m ρ K d0 _ _) $$ [HL Hat HG Hg19]
  · isplitl [HL]; · iexact HL
    isplitl [Hat]; · iexact Hat
    isplitl [HG] <;> iassumption
  iintro %r ⟨HT, Hzr, HG⟩
  rw [WP_bind]
  iapply (part26 m ρ K d0 _) $$ HT
  iintro %r HT
  rw [WP_bind]
  iapply (part27 m ρ K d0 _) $$ HT
  iintro %r HT
  rw [WP_bind]
  iapply (part28 m ρ K d0 _) $$ HT
  iintro %r HT
  rw [WP_bind]
  iapply (part29 m ρ K d0 _) $$ HT
  iintro %r HT
  rw [WP_bind]
  iapply (part30 m ρ K d0 _) $$ HT
  iintro %r HT
  simp only [Prog.lift, Prog.bind_op, Prog.bind_ret, Prog.pure_eq_ret]
  iapply (back_step m ρ K d0 20 20 21 rfl rfl _ (by exact rfl) _ _ (by exact rfl)) $$ HT
  iintro HT
  iapply (ret_step d0 _ _)
  iapply Hk
  unfold Left
  ihave ⟨Hw, Ho, Hh⟩ := (gem_all m ρ d0) $$ HG
  ihave ⟨HO, Hzs, Hs⟩ := (all_back m ρ K d0) $$ [HT Hh]
  · isplitl [HT] <;> iassumption
  isplitl [HO]; · iexact HO
  isplitl [Hzb]; · iexact Hzb
  isplitl [Hzr]; · iexact Hzr
  isplitl [Hzs]; · iexact Hzs
  isplitl [Hx]; · iexact Hx
  isplitl [Hw]; · iexact Hw
  isplitl [Ho] <;> iassumption

end Cert.Gather
-- ==== Proof.Ends.lean ====
/-
# The kernel's call

The pipeline of the call has one point and three windows: the block of `x`, the block of the weights, and the result. What
a device holds before the point is what the launch dealt it; after the point it holds its semaphores at zero and the
gathered matrix in its scratch buffer. The body's proof, restated in the pipeline's terms, is the obligation the launch
asks for.
-/
module

public import proofs.«01_k».proof.Proof.Body
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg) (K : Dev nD × Cx → ℕ)

/-- The ghost state a device starts from: every cell's record, the tokens of the duties it pays, its own positions. -/
def dealt (c : Dev nD) : sProp 𝕄 :=
  iprop(recs m ρ K
    ∗ (dutyTok ER (bar (nb 0 c)) 0 (opp 0) ∗ dutyTok ER (bar (nb 1 c)) 0 (opp 1) ∗ dutyTok ER (bar (nb 2 c)) 0 (opp 2))
    ∗ bigSep Finset.univ (toks c)
    ∗ atPos ER (bar c) 0 ∅ 0 ∗ (bigSep Finset.univ fun t => atPos ER (snd t c) 0 ∅ 0) ∗ bigSep Finset.univ fun t => atPos ER (rcv t c) 0 ∅ 0)
/-- The credit it starts from: three units at its barrier, each transfer's at its receive semaphore. -/
def funds (c : Dev nD) : sProp 𝕄 :=
  iprop(cred (tallyAt (bar c) () 3) ∗ bigSep Finset.univ fun t => cred (tallyAt (rcv t c) () (N t)))
/-- What a device starts from. -/
def start (c : Dev nD) : sProp 𝕄 := iprop((∃ K, dealt m ρ K c) ∗ funds c ∗ levAts L lv)

/-- What a device holds before the call's one point. -/
def before (c : Dev nD) : sProp 𝕄 := iprop(start m ρ c ∗ ∃ f, ((c : Thread nD τ).loc cc0_scratch0) ↦{fullShare} f)
/-- What a device holds after the call's one point. -/
def after (c : Dev nD) : sProp 𝕄 :=
  iprop(semVal (bar c) 0 ∗ (bigSep Finset.univ fun t => semVal (rcv t c) 0) ∗ (bigSep Finset.univ fun t => semVal (snd t c) 0)
    ∗ (((c : Thread nD τ).loc cc0_scratch0) ↦{fullShare} comm m ρ c))

/-- The pipeline's data: what the windows hold, what is kept beside them, what is owed. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => outAt m ρ c
  Φ t := match t with
    | ⟨0, _⟩ => before m ρ c
    | ⟨_ + 1, _⟩ => after m ρ c
  q _ := fullShare
  owed t := match t with
    | ⟨0, _⟩ => O₀ c
    | ⟨_ + 1, _⟩ => 0

/-- One assertion for each of the three windows. -/
theorem bigSep_win (Φ : Fin cfg0.W → sProp 𝕄) : bigSep Finset.univ Φ = iprop(Φ (0 : Fin 3) ∗ Φ (1 : Fin 3) ∗ Φ (2 : Fin 3)) := bigSep_W0 Φ

/-- Owning a buffer is owning it at its contents. -/
theorem owns_buf (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer at given contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- The state before the body and after it, window by window. -/
def bodyPre (c : Dev nD) : sProp 𝕄 :=
  iprop(before m ρ c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))
/-- What the body leaves. -/
def bodyPost (c : Dev nD) : sProp 𝕄 :=
  iprop(after m ρ c ∗ (dats m ρ 0 c).owesAt () t0_0.succ
    ∗ stg c cc0_stg0_0 (xstg m ρ c) ∗ stg c cc0_stg1_0 (wstg m ρ c) ∗ stg c cc0_stg2_0 (outAt m ρ c))

/-- The body finds the device's rows of `x` staged, -/
theorem before_x (c : Dev nD) (d) : (dats m ρ 0 c).before (0 : Fin 3) t0_0 d = xstg m ρ c := by
  unfold Dat.before; rw [if_pos (fetch0_0 t0_0)]; rfl
/-- and its columns of the weights. -/
theorem before_w (c : Dev nD) (d) : (dats m ρ 0 c).before (1 : Fin 3) t0_0 d = wstg m ρ c := by
  unfold Dat.before; rw [if_pos (fetch0_1 t0_0)]; rfl

/-- The body takes the one state to the other. -/
theorem body_run (c : Dev nD) :
    bodyPre m ρ c ⊢ WP c (cc0_body xM (Memref.isWhole_whole _) wM (Memref.isWhole_whole _) oM (Memref.isWhole_whole _) aM (Memref.isWhole_whole _)
      cc0_scratch1 cc0_scratch2 cc0_scratch3 cc0_scratch4 cc0_scratch5 cc0_scratch6) (fun _ => bodyPost m ρ c) := by
  unfold bodyPre before start dealt funds
  simp only [before_x, before_w]
  unfold Dat.owesAt Pipeline.owesWithin
  iintro ⟨⟨⟨⟨%K, HR, Htk, Htoks, Hab, Has, Har⟩, ⟨Hcb, Hcr⟩, Hlv⟩, Hscr⟩, ⟨%W, %hW, HO⟩, ⟨%d, %f, %hf, Hx⟩, ⟨%d', %f', %hf', Hw⟩, ⟨%d'', %f'', %hf'', Ho⟩⟩
  subst hf hf'
  iapply (body m ρ K c _) $$ [HR Htk Htoks Hab Has Har Hcb Hcr Hlv Hscr HO Hx Hw Ho]
  · unfold Boot owing
    isplitl [HR]; · iexact HR
    isplitl [Hlv]; · iexact Hlv
    isplitl [HO]; · iexists W; iexact HO
    isplitl [Htk]; · iexact Htk
    isplitl [Hcb]; · iexact Hcb
    isplitl [Hab]; · iexact Hab
    isplitl [Htoks]; · iexact Htoks
    isplitl [Har Hcr]
    · iapply (show iprop((bigSep Finset.univ fun t => atPos ER (rcv t c) 0 ∅ 0) ∗ bigSep Finset.univ fun t => cred (tallyAt (rcv t c) () (N t))) ⊢ (bigSep Finset.univ (exp c) : sProp 𝕄) from
        Entails.of_eq (bigSep_sep' _ _ _).symm)
      isplitl [Har] <;> iassumption
    isplitl [Has]; · iexact Has
    isplitl [Hx]; · iexact Hx
    isplitl [Hw]; · iexact Hw
    isplitl [Ho]; · iexists f''; iexact Ho
    iexact Hscr
  unfold Left owing bodyPost after Dat.owesAt Pipeline.owesWithin
  iintro ⟨⟨%W', HO⟩, Hb, Hr, Hs, Hx, Hw, Ho, Hscr⟩
  isplitl [Hb Hr Hs Hscr]
  · isplitl [Hb]; · iexact Hb
    isplitl [Hr]; · iexact Hr
    isplitl [Hs] <;> iassumption
  isplitl [HO]
  · iexists W'
    isplitr
    · ipureintro; exact fun _ _ => Or.inl trivial
    iexact HO
  isplitl [Hx]
  · iexists _
    isplitr
    · ipureintro; rfl
    iexact Hx
  isplitl [Hw]
  · iexists _
    isplitr
    · ipureintro; rfl
    iexact Hw
  iexists _
  isplitr
  · ipureintro; rfl
  iexact Ho

set_option maxRecDepth 8000 in
/-- The pipeline's obligation of the body. -/
theorem body_obligation (c : Dev nD) : BodyObligation (dats (F := F) m ρ 0 c) (defs₀ (F := F)) 𝒱₀ () Set.univ := fun t => by
  rw [show t = t0_0 from fin_N0 t]
  rw [bigSep_win, bigSep_win]
  simp only [owns_buf]
  exact body_run m ρ c

end Cert.Gather
-- ==== Proof.Launch.lean ====
/-
# The launch

Every semaphore of the kernel starts at zero and is turned into a cell: the record that it is at its round, which every
device keeps, the owner's position, and the tokens of its duties. The tokens are then dealt to the devices that pay
them — a barrier's three to the three neighbours, a receive semaphore's to the sender — and the credit each device waits
against is what the others owe it. With the body's proof this runs @main.
-/
module

public import proofs.«01_k».proof.Proof.Ends

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## A device's cells, sorted -/

/-- A device's cells are its barrier, its send cells and its receive cells. -/
theorem cx_split (Φ : Cx → sProp 𝕄) :
    bigSep Finset.univ Φ = iprop(Φ none ∗ (bigSep Finset.univ fun t => Φ (some (false, t))) ∗ bigSep Finset.univ fun t => Φ (some (true, t))) := by
  rw [show (Finset.univ : Finset Cx) = insert none ((Finset.univ : Finset (Bool × Tr)).map Function.Embedding.some) from by decide +kernel,
    bigSep_insert (by simp), bigSep_map, bigSep_univ_prod,
    bigSep_univ_eq_bigSepL ([false, true] : List Bool) (by decide) (by decide), bigSepL_cons_cons, bigSepL_singleton]
  rfl

/-- One assertion for each of three duties. -/
theorem three (Φ : Fin 3 → sProp 𝕄) : bigSep Finset.univ Φ = iprop(Φ 0 ∗ Φ 1 ∗ Φ 2) := by
  rw [bigSep_univ_eq_bigSepL ([0, 1, 2] : List (Fin 3)) (by decide) (by decide)]; rfl

/-! ## What is minted -/

/-- The scoped semaphores: the transfers' forty-two. -/
abbrev osem (x : Bool × Tr) : SemLoc sig := csem (some x)
/-- The forty-two are the scoped semaphores that no window uses. -/
theorem osem_facts : Pipeline.OwnSemFacts cfg0.spec osem := by decide +kernel

/-- The cells of all devices. -/
def allCells : Finset (GSem nD τ sig) := Finset.univ.map ⟨kcell, kcell_inj⟩

/-- A token for every cell and each of three duties: more than the schedule names, which does no harm. -/
abbrev tokOf (x : (Dev nD × Cx) × Fin 3) : GSem nD τ sig × ℕ × Fin 3 := (kcell x.1, 0, x.2)
/-- No two cells and duties share a token. -/
theorem tokOf_inj : Function.Injective tokOf := fun x y h => by
  have h1 : x.1 = y.1 := kcell_inj (congrArg (fun z : GSem nD τ sig × ℕ × Fin 3 => z.1) h)
  have h2 : x.2 = y.2 := congrArg (fun z : GSem nD τ sig × ℕ × Fin 3 => z.2.2) h
  exact Prod.ext h1 h2
/-- All tokens. -/
def allToks : Finset (GSem nD τ sig × ℕ × Fin 3) := Finset.univ.map ⟨tokOf, tokOf_inj⟩

/-- The ghost element the launch starts with: the pipeline's, and the cells' and tokens'. -/
def u₀ : UU := (initOf (Pipeline.cells cfgs cellOf_inj) (Pipeline.launchToks cfgs cellOf_inj), initOf allCells allToks)

/-- The tokens of device `c`'s own cells. -/
def minted (c : Dev nD) : sProp 𝕄 :=
  iprop((bigSep Finset.univ fun e => dutyTok ER (bar c) 0 e) ∗ (bigSep Finset.univ fun t => dutyTok ER (snd t c) 0 0) ∗ bigSep Finset.univ fun t => dutyTok ER (rcv t c) 0 0)

/-- A device's share of the launch's ghost element. -/
def share (c : Dev nD) : sProp 𝕄 :=
  iprop((bigSep Finset.univ fun x => roundState ER (Rd m ρ) (kcell (c, x)) 0) ∗ (bigSep Finset.univ fun x => reached ER (kcell (c, x)) 0)
    ∗ (bigSep Finset.univ fun x => atPos ER (kcell (c, x)) 0 ∅ 0) ∗ minted c)

/-- Of all tokens of a device's cells, the schedule's. -/
theorem minted_intro (c : Dev nD) : (bigSep Finset.univ fun x : Cx => bigSep Finset.univ fun e : Fin 3 => (dutyTok ER (kcell (c, x)) 0 e : sProp 𝕄)) ⊢ minted c := by
  rw [cx_split]; unfold minted
  exact sep_mono (Entails.refl _) (sep_mono (bigSep_mono fun t _ => bigSep_elim (Finset.mem_univ 0)) (bigSep_mono fun t _ => bigSep_elim (Finset.mem_univ 0)))

/-- The ghost element pays every device its share. -/
theorem fund_all : BI.own (ER (initOf allCells allToks)) ⊢ (|==> bigSep Finset.univ (share m ρ) : sProp 𝕄) := by
  have hX (Φ : GSem nD τ sig → sProp 𝕄) : bigSep allCells Φ = bigSep Finset.univ fun c : Dev nD => bigSep Finset.univ fun x : Cx => Φ (kcell (c, x)) := by
    unfold allCells; rw [bigSep_map, bigSep_univ_prod]; rfl
  have hT : bigSep allToks (fun x => (dutyTok ER x.1 x.2.1 x.2.2 : sProp 𝕄)) ⊢ bigSep Finset.univ fun c : Dev nD => minted c := by
    unfold allToks; rw [bigSep_map, bigSep_univ_prod, bigSep_univ_prod]
    exact bigSep_mono fun c _ => minted_intro c
  iintro HX
  imod (Rounds.fund ER (Rd m ρ) allCells allToks) $$ HX with ⟨Hst, Hr, Hat, Htok⟩
  imodintro
  ihave Hst := (Entails.of_eq (hX fun g => roundState ER (Rd m ρ) g 0)) $$ Hst
  ihave Hr := (Entails.of_eq (hX fun g => reached ER g 0)) $$ Hr
  ihave Hat := (Entails.of_eq (hX fun g => atPos ER g 0 ∅ 0)) $$ Hat
  ihave Htok := hT $$ Htok
  unfold share; simp only [bigSep_sep']
  isplitl [Hst]; · iexact Hst
  isplitl [Hr]; · iexact Hr
  isplitl [Hat] <;> iassumption

/-! ## The semaphores become cells -/

/-- The scoped semaphores at zero are the send and receive semaphores at zero. -/
theorem ownSems0_eq (c : Dev nD) : (Pipeline.ownSems0 (Ix := Unit) (Name := ℕ) (U := UU) (Lvl := ℕ) (Val := Elt F) (τ := τ) osem c : sProp 𝕄)
    = iprop((bigSep Finset.univ fun t => semVal (snd t c) 0) ∗ bigSep Finset.univ fun t => semVal (rcv t c) 0) := by
  unfold Pipeline.ownSems0
  rw [bigSep_univ_prod, bigSep_univ_eq_bigSepL ([false, true] : List Bool) (by decide) (by decide), bigSepL_cons_cons, bigSepL_singleton]
  rfl
/-- The one unscoped semaphore is the barrier. -/
theorem unscopedSems0_eq (c : Dev nD) : (unscopedSems0 c : sProp 𝕄) = semVal (bar c) 0 := by
  unfold unscopedSems0; rw [bigSep_eq_bigSepL_of_eq [SemLoc.reg barS] (by decide +kernel) (by decide)]; rfl

/-- Together they are a device's cells at zero. -/
theorem sems0 (c : Dev nD) :
    iprop(Pipeline.ownSems0 (Ix := Unit) (Name := ℕ) (U := UU) (Lvl := ℕ) (Val := Elt F) (τ := τ) osem c ∗ unscopedSems0 c)
      ⊢ (bigSep Finset.univ fun x : Cx => semVal (kcell (c, x)) 0 : sProp 𝕄) := by
  rw [ownSems0_eq, unscopedSems0_eq, cx_split]
  iintro ⟨⟨HS, HV⟩, HB⟩
  isplitl [HB]; · iexact HB
  isplitl [HS]; · iexact HS
  iexact HV

/-- A device's semaphores become cells with their schedule. -/
theorem core_cells (c : Dev nD) :
    iprop(Pipeline.ownSems0 (Ix := Unit) (Name := ℕ) (U := UU) (Lvl := ℕ) (Val := Elt F) (τ := τ) osem c ∗ unscopedSems0 c ∗ share m ρ c)
      ⊢ |={Set.univ}=> iprop((bigSep Finset.univ fun x : Cx => iprop(∃ κ : ℕ, cellInv ER (Rd m ρ) κ (kcell (c, x))))
          ∗ (bigSep Finset.univ fun x : Cx => reached ER (kcell (c, x)) 0)
          ∗ (bigSep Finset.univ fun x : Cx => atPos ER (kcell (c, x)) 0 ∅ 0) ∗ minted c) := by
  unfold share
  iintro ⟨Hos, Hus, Hst, Hr, Hat, Htok⟩
  ihave Hv := (sems0 (F := F) c) $$ [Hos Hus]
  · isplitl [Hos] <;> iassumption
  imod (show iprop((bigSep Finset.univ fun x : Cx => semVal (kcell (c, x)) 0) ∗ bigSep Finset.univ fun x : Cx => roundState ER (Rd m ρ) (kcell (c, x)) 0)
      ⊢ (|={Set.univ}=> bigSep Finset.univ fun x => iprop(∃ κ : ℕ, cellInv ER (Rd m ρ) κ (kcell (c, x))) : sProp 𝕄) from by
        rw [← bigSep_sep']
        exact (bigSep_mono fun x _ => (Rounds.body_intro ER (Rd m ρ) (kcell (c, x))).trans inv_alloc).trans (bigSep_fupd _ _)) $$ [Hv Hst] with Hinv
  · isplitl [Hv] <;> iassumption
  imodintro
  isplitl [Hinv]; · iexact Hinv
  isplitl [Hr]; · iexact Hr
  isplitl [Hat] <;> iassumption

/-! ## The tokens are dealt -/

/-- The tokens device `c` pays with. -/
def purse (c : Dev nD) : sProp 𝕄 :=
  iprop((dutyTok ER (bar (nb 0 c)) 0 (opp 0) ∗ dutyTok ER (bar (nb 1 c)) 0 (opp 1) ∗ dutyTok ER (bar (nb 2 c)) 0 (opp 2)) ∗ bigSep Finset.univ (toks c))

/-- A receive cell's token goes to the device that sends to it, -/
theorem deal_rcv : (bigSep Finset.univ fun c : Dev nD => bigSep Finset.univ fun t : Tr => (dutyTok ER (rcv t c) 0 0 : sProp 𝕄))
    = bigSep Finset.univ fun c : Dev nD => bigSep Finset.univ fun t : Tr => dutyTok ER (rcv t (tgt t c)) 0 0 := by
  rw [BI.bigSep_univ_comm, BI.bigSep_univ_comm (fun (c : Dev nD) (t : Tr) => (dutyTok ER (rcv t (tgt t c)) 0 0 : sProp 𝕄))]
  exact bigSep_congr fun t _ => bigSep_univ_equiv (nbEquiv (dir t)) (fun c => (dutyTok ER (rcv t c) 0 0 : sProp 𝕄))

/-- and a barrier's to the neighbour that raises it. -/
theorem deal_bar (e e' : Fin 3) : (bigSep Finset.univ fun c : Dev nD => (dutyTok ER (bar c) 0 e : sProp 𝕄))
    = bigSep Finset.univ fun c : Dev nD => dutyTok ER (bar (nb e' c)) 0 e :=
  bigSep_univ_equiv (nbEquiv e') (fun c => (dutyTok ER (bar c) 0 e : sProp 𝕄))

/-- So every device gets the tokens it pays with. -/
theorem deal : (bigSep Finset.univ fun c : Dev nD => (minted c : sProp 𝕄)) ⊢ bigSep Finset.univ fun c : Dev nD => purse c := by
  have h1 : (fun c : Dev nD => (minted c : sProp 𝕄)) = fun c => iprop((dutyTok ER (bar c) 0 0 ∗ dutyTok ER (bar c) 0 1 ∗ dutyTok ER (bar c) 0 2)
      ∗ (bigSep Finset.univ fun t => dutyTok ER (snd t c) 0 0) ∗ bigSep Finset.univ fun t => dutyTok ER (rcv t c) 0 0) := by
    funext c; unfold minted; rw [three]
  have h2 : (fun c : Dev nD => (purse c : sProp 𝕄)) = fun c => iprop((dutyTok ER (bar (nb 0 c)) 0 1 ∗ dutyTok ER (bar (nb 1 c)) 0 0 ∗ dutyTok ER (bar (nb 2 c)) 0 2)
      ∗ (bigSep Finset.univ fun t => dutyTok ER (snd t c) 0 0) ∗ bigSep Finset.univ fun t => dutyTok ER (rcv t (tgt t c)) 0 0) := by
    funext c; unfold purse
    rw [show (toks c : Tr → sProp 𝕄) = fun t => iprop(dutyTok ER (snd t c) 0 0 ∗ dutyTok ER (rcv t (tgt t c)) 0 0) from rfl, bigSep_sep']; rfl
  rw [h1, h2]
  simp only [bigSep_sep']
  rw [deal_rcv, deal_bar 0 1, deal_bar 1 0, deal_bar 2 2]
  iintro ⟨⟨H0, H1, H2⟩, HS, HR⟩
  isplitl [H0 H1 H2]
  · isplitl [H1]; · iexact H1
    isplitl [H0] <;> iassumption
  isplitl [HS] <;> iassumption

/-- What a device ends with after the deal. -/
def hand (c : Dev nD) : sProp 𝕄 := iprop(∃ K, dealt m ρ K c)

/-- What a device ends with, from its parts. -/
theorem hand_intro (K : Dev nD × Cx → ℕ) (c : Dev nD) :
    iprop(recs m ρ K ∗ ((bigSep Finset.univ fun x : Cx => atPos ER (kcell (c, x)) 0 ∅ 0) ∗ purse c)) ⊢ hand m ρ c := by
  rw [cx_split]; unfold hand dealt purse
  iintro ⟨HR, ⟨Hb, Hs, Hr⟩, Hk, Ht⟩
  iexists K
  isplitl [HR]; · iexact HR
  isplitl [Hk]; · iexact Hk
  isplitl [Ht]; · iexact Ht
  isplitl [Hb]; · iexact Hb
  isplitl [Hs]; · iexact Hs
  iexact Hr

/-- Every device's cells are recorded for all, and the tokens dealt. -/
theorem regroup :
    (bigSep Finset.univ fun c : Dev nD => iprop((bigSep Finset.univ fun x : Cx => iprop(∃ κ : ℕ, cellInv ER (Rd m ρ) κ (kcell (c, x))))
          ∗ (bigSep Finset.univ fun x : Cx => reached ER (kcell (c, x)) 0)
          ∗ (bigSep Finset.univ fun x : Cx => atPos ER (kcell (c, x)) 0 ∅ 0) ∗ minted c) : sProp 𝕄)
      ⊢ bigSep Finset.univ (hand m ρ) := by
  rw [bigSep_sep', bigSep_sep', bigSep_sep', ← bigSep_univ_prod (fun x : Dev nD × Cx => iprop(∃ κ : ℕ, cellInv ER (Rd m ρ) κ (kcell x))),
    ← bigSep_univ_prod (fun x : Dev nD × Cx => (reached ER (kcell x) 0 : sProp 𝕄))]
  iintro ⟨HI, HR, Hat, Htok⟩
  ihave ⟨%K, HI⟩ := (BI.bigSep_exists_pi Finset.univ (fun (x : Dev nD × Cx) (κ : ℕ) => (cellInv ER (Rd m ρ) κ (kcell x) : sProp 𝕄))) $$ HI
  ihave Htk := (deal (F := F)) $$ Htok
  iapply (BI.bigSep_with_persistent (R := recs m ρ K) fun c _ => hand_intro m ρ K c)
  isplitl [HI HR]
  · unfold recs
    iapply (Entails.of_eq (bigSep_sep' Finset.univ (fun x : Dev nD × Cx => (cellInv ER (Rd m ρ) (K x) (kcell x) : sProp 𝕄)) (fun x => reached ER (kcell x) 0)).symm)
    isplitl [HI] <;> iassumption
  · iapply (Entails.of_eq (bigSep_sep' Finset.univ (fun c : Dev nD => bigSep Finset.univ fun x : Cx => (atPos ER (kcell (c, x)) 0 ∅ 0 : sProp 𝕄)) purse).symm)
    isplitl [Hat] <;> iassumption

/-- The launch's set-up, from the semaphores at zero to what every device starts with. -/
theorem glob : (bigSep Finset.univ fun c => iprop(Pipeline.ownSems0 (Ix := Unit) (Name := ℕ) (U := UU) (Lvl := ℕ) (Val := Elt F) (τ := τ) osem c ∗ unscopedSems0 c ∗ share m ρ c) : sProp 𝕄)
    ⊢ |={Set.univ}=> bigSep Finset.univ (hand m ρ) :=
  ((bigSep_mono fun c _ => core_cells m ρ c).trans (bigSep_fupd _ _)).trans (BI.fupd_mono (regroup m ρ))

/-! ## The credit -/

/-- If every device owes `n` to one device's cell, and no two to the same, each cell is owed `n`. -/
theorem sum_one (e : Fin 3) (g : Dev nD → GSem nD τ sig) (hg : Function.Injective g) (n : ℕ) (c : Dev nD) :
    (∑ d : Dev nD, tallyAt (g (nb e d)) () n (g c) () : ℕ) = n := by
  rw [Finset.sum_eq_single (nb (opp e) c)]
  · rw [nb_opp', tallyAt_apply, if_pos ⟨rfl, rfl⟩]
  · intro d _ hd
    rw [tallyAt_apply, if_neg]
    exact fun h => hd (by rw [hg h.1, nb_opp])
  · exact fun h => absurd (Finset.mem_univ _) h

/-- Different devices have different barriers, -/
theorem bar_inj : Function.Injective (bar : Dev nD → GSem nD τ sig) := fun a b h => congrArg Prod.fst (kcell_inj (a₁ := (a, none)) (a₂ := (b, none)) h)
/-- and different receive cells; -/
theorem rcv_inj (t : Tr) : Function.Injective (rcv t : Dev nD → GSem nD τ sig) := fun a b h =>
  congrArg Prod.fst (kcell_inj (a₁ := (a, some (true, t))) (a₂ := (b, some (true, t))) h)
/-- a barrier is no receive cell, -/
theorem bar_ne_rcv (a b : Dev nD) (t : Tr) : bar a ≠ rcv t b := fun h => by
  have := congrArg Prod.snd (kcell_inj (a₁ := (a, none)) (a₂ := (b, some (true, t))) h); cases this
/-- and different transfers have different receive cells. -/
theorem rcv_ne_rcv (a b : Dev nD) (t t' : Tr) (ht : t' ≠ t) : rcv t a ≠ rcv t' b := fun h => by
  have := congrArg Prod.snd (kcell_inj (a₁ := (a, some (true, t))) (a₂ := (b, some (true, t'))) h)
  exact ht (congrArg (fun x : Cx => (x.getD (true, t)).2) this).symm

/-- What a device owes a cell for its copies. -/
theorem Ow_apply (d : Dev nD) (g : GSem nD τ sig) : Ow d 0 g () = ∑ t : Tr, tallyAt (rcv t (tgt t d)) () (N t) g () := by
  unfold Ow
  rw [Finset.sum_apply, Finsupp.finset_sum_apply, show Ring.rangeSet 21 0 21 = Finset.univ from Ring.rangeSet_univ]

/-- Three units are owed to every barrier, -/
theorem owed_bar (c : Dev nD) : ∑ d, O₀ d (bar c) () = 3 := by
  have h (d : Dev nD) : O₀ d (bar c) () = tallyAt (bar (nb 2 d)) () 1 (bar c) () + tallyAt (bar (nb 1 d)) () 1 (bar c) () + tallyAt (bar (nb 0 d)) () 1 (bar c) () := by
    unfold O₀ O₁ O₂
    rw [Pi.add_apply, Finsupp.add_apply, Pi.add_apply, Finsupp.add_apply, Pi.add_apply, Finsupp.add_apply, Ow_apply,
      Finset.sum_eq_zero fun t _ => by rw [tallyAt_apply, if_neg fun h => bar_ne_rcv _ _ _ h.1], Nat.zero_add]
  rw [Finset.sum_congr rfl fun d _ => h d, Finset.sum_add_distrib, Finset.sum_add_distrib, sum_one 2 bar bar_inj, sum_one 1 bar bar_inj, sum_one 0 bar bar_inj]

/-- and one transfer's credit to every receive cell. -/
theorem owed_rcv (c : Dev nD) (t : Tr) : ∑ d, O₀ d (rcv t c) () = N t := by
  have h (d : Dev nD) : O₀ d (rcv t c) () = tallyAt (rcv t (nb (dir t) d)) () (N t) (rcv t c) () := by
    unfold O₀ O₁ O₂
    rw [Pi.add_apply, Finsupp.add_apply, Pi.add_apply, Finsupp.add_apply, Pi.add_apply, Finsupp.add_apply, Ow_apply,
      tallyAt_apply, if_neg (fun h => bar_ne_rcv _ _ _ h.1.symm), tallyAt_apply, if_neg (fun h => bar_ne_rcv _ _ _ h.1.symm),
      tallyAt_apply, if_neg (fun h => bar_ne_rcv _ _ _ h.1.symm)]
    simp only [Nat.add_zero]
    exact Finset.sum_eq_single t (fun t' _ ht => by rw [tallyAt_apply, if_neg fun h => rcv_ne_rcv _ _ _ _ ht h.1]) (fun h => absurd (Finset.mem_univ _) h)
  rw [Finset.sum_congr rfl fun d _ => h d, sum_one (dir t) (rcv t) (rcv_inj t)]

/-- The launch's credit at a barrier, -/
theorem launch_bar (c : Dev nD) :
    tallyOn (bar c) (launchCredit (Pipeline.owing O₀) 0 (bar c)) = (tallyAt (bar c) () 3 : CellTallies nD τ sig Unit) := by
  unfold tallyAt; refine congrArg _ (Finsupp.ext fun u => ?_); cases u
  rw [Pipeline.launchCredit_owing, Finsupp.single_eq_same, owed_bar]
/-- and at a receive cell. -/
theorem launch_rcv (c : Dev nD) (t : Tr) :
    tallyOn (rcv t c) (launchCredit (Pipeline.owing O₀) 0 (rcv t c)) = (tallyAt (rcv t c) () (N t) : CellTallies nD τ sig Unit) := by
  unfold tallyAt; refine congrArg _ (Finsupp.ext fun u => ?_); cases u
  rw [Pipeline.launchCredit_owing, Finsupp.single_eq_same, owed_rcv]

/-- A device starts with the credit it will wait for. -/
theorem credit (c : Dev nD) : (Pipeline.launchCred O₀ c : sProp 𝕄) ⊢ funds c := by
  have h : (Pipeline.launchCred O₀ c : sProp 𝕄)
      ⊢ iprop(cred (tallyOn (bar c) (launchCredit (Pipeline.owing O₀) 0 (bar c)))
        ∗ (bigSep Finset.univ fun t => cred (tallyOn (snd t c) (launchCredit (Pipeline.owing O₀) 0 (snd t c))))
        ∗ bigSep Finset.univ fun t => cred (tallyOn (rcv t c) (launchCredit (Pipeline.owing O₀) 0 (rcv t c)))) := by
    unfold Pipeline.launchCred
    have e' := cx_split fun x : Cx => (cred (tallyOn (kcell (c, x)) (launchCredit (Pipeline.owing O₀) 0 (kcell (c, x)))) : sProp 𝕄)
    have e := bigSep_map (s := Finset.univ) (⟨csem, csem_inj⟩ : Cx ↪ SemLoc sig)
      (Φ := fun sm => (cred (tallyOn ((c : Thread nD τ), sm) (launchCredit (Pipeline.owing O₀) 0 ((c : Thread nD τ), sm))) : sProp 𝕄))
    exact (show _ ⊢ _ from BI.bigSep_subset (Finset.subset_univ _)).trans (Entails.of_eq (e.trans e'))
  unfold funds
  rw [← launch_bar, ← bigSep_congr fun t _ => congrArg cred (launch_rcv c t)]
  iintro H
  ihave ⟨Hb, -, Hr⟩ := h $$ H
  isplitl [Hb] <;> iassumption

end Cert.Gather
-- ==== Proof.Run.lean ====
/-
# The run

@main on sixteen devices: every fair execution ends, with the arguments as they were, every semaphore at zero, and on
each device the result computed from the gathered matrix and that device's columns.
-/
module

public import proofs.«01_k».proof.Proof.Launch
public import Idealize.ShloMosaic.Lib.Pipeline.CollectiveSegs

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-- Every window's array is held in full. -/
theorem share_full (c : Dev nD) (w : Fin cfg0.W) : (dats m ρ 0 c).share w = fullShare := by unfold Dat.share; split <;> rfl

/-- What the launch gives a device is what it starts with. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ hand m ρ c)
      ⊢ |={Set.univ}=> iprop(start m ρ c ∗ emp) := by
  iintro ⟨-, Hlev, Hcr, -, HG⟩
  ihave Hc := (credit (F := F) c) $$ Hcr
  imodintro
  unfold start hand
  isplitl
  · isplitl [HG]; · iexact HG
    isplitl [Hc] <;> iassumption
  · iempintro

/-- With its scratch buffers that is what it holds before the point. -/
theorem before_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = before m ρ c from rfl, scopedRest0_eq]
  unfold before
  iintro ⟨Hs, -, Hr⟩
  isplitl [Hs] <;> iassumption

/-- After the point every semaphore is back at zero. -/
theorem after_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = after m ρ c from rfl, scopedRest0_eq, ownSems0_eq, unscopedSems0_eq]
  unfold after
  iintro ⟨Hb, Hr, Hs, Hscr⟩
  isplitl [Hb]; · iexact Hb
  isplitl [Hr Hs]
  · isplitl [Hs] <;> iassumption
  iexists (comm m ρ c); iexact Hscr

/-- The staging copies may be waited for. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide +kernel) _ (by
      rcases t with ⟨_ | _, ht⟩
      · exact Or.inl rfl
      · exact Or.inr rfl)

/-- What window `w`'s array holds on device `c` after the run. -/
def final (c : Dev nD) (w : Fin cfg0.W) : Buf (Elt F) ((cfg0.win w).arr.view.loc (c : Thread nD τ)) := (dats m ρ 0 c).arrAt w cfg0.N

set_option maxRecDepth 8000 in
/-- @main runs: every window's array ends with its computed contents, every semaphore at zero. -/
theorem run_main : θ_run defs (onTc (τ := τ) (main (F := F))) (s₀ m ρ)
    (fun r => (∀ c : Dev nD, ∀ w : Fin cfg0.W, r.2.mem ((cfg0.win w).arr.view.loc (c : Thread nD τ)) = final m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ osem_facts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_full m ρ)
    (hdistinct := winFacts0.arr_inj)
    (O₀ := O₀) (howed₀ := fun _ => rfl) (howedN := fun _ => rfl)
    (L := L) (lv := lv) (hL := L_of_ne) (hwaits := waits m ρ)
    (G := share m ρ) (G' := hand m ρ) (u₀ := u₀)
    (hu₀ := by
      unfold u₀
      iintro Hu
      ihave ⟨HP, HX⟩ := (ownU_pair _ _) $$ Hu
      imod (fund_all m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := before_intro m ρ) (hout := after_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The rows of `x` end as they were, -/
theorem final_x (c : Dev nD) : final m ρ c (0 : Fin 3) = (s₀ m ρ).mem (win0_0.arr.view.loc (c : Thread nD τ)) :=
  (dats (F := F) m ρ 0 c).arrAt_in (0 : Fin 3) rfl _
/-- and so do the columns of the weights. -/
theorem final_w (c : Dev nD) : final m ρ c (1 : Fin 3) = (s₀ m ρ).mem (win0_1.arr.view.loc (c : Thread nD τ)) :=
  (dats (F := F) m ρ 0 c).arrAt_in (1 : Fin 3) rfl _

/-- The result window is the whole array, so the array ends at what the body left in the staging buffer. -/
theorem final_o (c : Dev nD) : (win0_2.blk (0 : Fin 1)).view.read (Elt F) (final m ρ c (2 : Fin 3)) = outAt m ρ c := by
  unfold final
  rw [show cfg0.N = ((0 : Fin 1) : Fin cfg0.N).val + 1 from rfl, (dats m ρ 0 c).arrAt_succ (2 : Fin 3) (0 : Fin 1)]
  rw [show (cfg0.win (2 : Fin 3)).flush (0 : Fin 1) = true from by decide, if_pos rfl]
  exact View.read_write_univ _ _

end Cert.Gather
-- ==== Proof.Value.lean ====
/-
# What the kernel computes

Over the extended reals, an element of a device's result is the sum over the contraction of its row of the gathered `x`
times its column of the weights; and that is the element of the whole product at the device's columns.
-/
module

public import proofs.«01_k».proof.Proof.Run
public import proofs.«01_k».proof.Proof.Gen.ReferenceIdeal
public import Idealize.ShloMosaic.PureOps.Ideal
public import Idealize.ShloMosaic.Lib.Layout
public import Idealize.ShloMosaic.Lib.Pointwise

@[expose] public section

noncomputable section

namespace Cert.Gather

open Cert.KernelIdeal Cert.KernelIdeal.Gen
open Idealize.ShloMosaic Idealize.ShloMosaic.TcCoe

/-- The kernel's product at an index. -/
theorem pay_apply (v : Vec Ideal S1x256x4096 .bf16) (w : Vec Ideal S4096x512 .bf16) (r : Fin 256) (l : Fin 512) :
    k0_pay2 v w (ix2 r l) = ∑ k : Fin 4096, v (ix3 (0 : Fin 1) r k) * w (ix2 k l) := by
  unfold k0_pay2
  pointwise

/-- The reference's product at an index. -/
theorem ref_apply (x : FVec Ideal Cert.ReferenceIdeal.S4096x4096 .bf16) (w : FVec Ideal Cert.ReferenceIdeal.S4096x8192 .bf16) (r : Fin 4096) (l : Fin 8192) :
    extf .f32 (truncf .bf16 (Host.dotGeneral Cert.ReferenceIdeal.dot_S4096x4096_S4096x8192_S4096x8192_1_0_0_1_n_n none x w) Cert.ReferenceIdeal.Facts₀.bitsLt_bf16_f32) Cert.ReferenceIdeal.Facts₀.bitsLt_bf16_f32 (ix2 r l)
      = ∑ k : Fin 4096, x (ix2 r k) * w (ix2 k l) := by
  pointwise

section

variable {F : FTy → Type} [FloatOps F]
variable (m : (ℓ : Loc nD τ sig) → Buf (Elt F) ℓ) (ρ : Dev nD → PrngReg)

/-- The staged rows are the argument's: the window is the whole array. -/
theorem xstg_eq (c : Dev nD) : xstg m ρ c = m ((c : Thread nD τ).loc main_arg0) := by
  funext i
  refine congrArg (m ((c : Thread nD τ).loc main_arg0)) (funext fun a => Fin.ext ?_)
  exact Pipeline.Window.rect_emb_val_of_index_zero win0_0 (0 : Fin 1) a (by revert a; decide) i

/-- The staged columns are the argument's. -/
theorem wstg_eq (c : Dev nD) : wstg m ρ c = m ((c : Thread nD τ).loc main_arg1) := by
  funext i
  refine congrArg (m ((c : Thread nD τ).loc main_arg1)) (funext fun a => Fin.ext ?_)
  exact Pipeline.Window.rect_emb_val_of_index_zero win0_1 (0 : Fin 1) a (by revert a; decide) i

/-- The result array ends at what the body left in its staging buffer. -/
theorem final_out (c : Dev nD) : final m ρ c (2 : Fin 3) = outAt m ρ c := by
  rw [← final_o]
  funext i
  refine congrArg (final m ρ c (2 : Fin 3)) (funext fun a => Fin.ext ?_)
  exact (Pipeline.Window.rect_emb_val_of_index_zero win0_2 (0 : Fin 1) a ((show ∀ a : Fin 2, win0_2.index (0 : Fin 1) a = 0 by decide) a) i).symm

end

variable (m : (ℓ : Loc nD τ sig) → Buf (Elt Ideal) ℓ) (ρ : Dev nD → PrngReg)

/-- An element of a device's result, as a sum over the gathered rows and the device's columns. -/
theorem out_apply (c : Dev nD) (x : Dev nD → Vec Ideal S256x4096 .bf16) (w : Vec Ideal S4096x512 .bf16)
    (hx : ∀ d : Dev nD, m ((d : Thread nD τ).loc main_arg0) = x d) (hw : m ((c : Thread nD τ).loc main_arg1) = w) (i : S4096x512.Idx) :
    (outAt m ρ c : Vec Ideal S4096x512 .f32) i
      = ∑ k : Fin 4096, x (rdev i) (ix2 ⟨(i 0).val % 256, Nat.mod_lt _ (by decide)⟩ k) * w (ix2 k (i 1)) := by
  unfold outAt slab
  rw [xstg_eq, wstg_eq, hx, hw]
  exact pay_apply _ _ _ _

/-- Row `i` of the whole `x` is row `i % 256` of block `i / 256`. -/
theorem row_idx (i : S4096x512.Idx) (k : Fin 4096) (h : Layout.Tiles ⟨2, ![256, 4096]⟩ ⟨2, ![4096, 4096]⟩ 0 16) :
    h.idx (rdev i) (ix2 ⟨(i 0).val % 256, Nat.mod_lt _ (by decide)⟩ k : S256x4096.Idx) = ix2 (i 0) k := by
  funext a
  refine Fin.ext ?_
  fin_cases a
  · show (i 0).val / 256 * 256 + (i 0).val % 256 = (i 0).val
    omega
  · rfl

/-- The gathered product is the device's block of the whole product. -/
theorem out_eq (c : Dev nD) (X : FVec Ideal Cert.ReferenceIdeal.S4096x4096 .bf16) (W : FVec Ideal Cert.ReferenceIdeal.S4096x8192 .bf16)
    (hx : ∀ d : Dev nD, m ((d : Thread nD τ).loc main_arg0) = Layout.block ⟨2, ![256, 4096]⟩ ⟨2, ![4096, 4096]⟩ 0 16 d X)
    (hw : m ((c : Thread nD τ).loc main_arg1) = Layout.block ⟨2, ![4096, 512]⟩ ⟨2, ![4096, 8192]⟩ 1 16 c W) :
    outAt m ρ c = Layout.block ⟨2, ![4096, 512]⟩ ⟨2, ![4096, 8192]⟩ 1 16 c
      (extf .f32 (truncf .bf16 (Host.dotGeneral Cert.ReferenceIdeal.dot_S4096x4096_S4096x8192_S4096x8192_1_0_0_1_n_n none X W)
        Cert.ReferenceIdeal.Facts₀.bitsLt_bf16_f32) Cert.ReferenceIdeal.Facts₀.bitsLt_bf16_f32 : FVec Ideal Cert.ReferenceIdeal.S4096x8192 .f32) := by
  funext i
  refine (out_apply m ρ c _ _ hx hw i).trans ?_
  rw [Layout.block_apply]
  refine Eq.trans (α := EReal) ?_ ((ref_apply X W (i 0) ⟨c.val * 512 + (i 1).val, ?_⟩).symm.trans (congrArg _ ?_))
  · refine Finset.sum_congr rfl fun k _ => ?_
    rw [Layout.block_apply, row_idx, Layout.block_apply]
    refine congrArg (X (ix2 (i 0) k) * W ·) ?_
    funext a
    refine Fin.ext ?_
    fin_cases a <;> rfl
  · have : (i 1).val < 512 := (i 1).isLt
    have : c.val < 16 := c.isLt
    omega
  · funext a
    refine Fin.ext ?_
    fin_cases a <;> rfl

end Cert.Gather
-- ==== Proof.Frames.lean ====
/-
# What the kernel leaves alone

For any reading of the floats the kernel ends with its arguments as they were and every semaphore at zero. The program
as printed and the program read over the extended reals are the same text, so at the bits their bodies are equal.
-/
module

public import proofs.«01_k».proof.Proof.Run
public import proofs.«01_k».proof.Proof.Gen.Kernel
public import Idealize.ShloMosaic.PureOps.BitExact

@[expose] public section

noncomputable section

namespace Cert.Gather

open Cert.KernelIdeal
open Idealize.ShloMosaic Idealize.ShloMosaic.TcCoe Idealize.SL.Sem

/-- For any reading of the floats the kernel terminates with its arguments unchanged and every semaphore at zero. -/
theorem frame_any {F : FTy → Type} [FloatOps F]
    (m : (ℓ : Loc nD τ sig) → Buf (Elt F) ℓ) (ρ : Dev nD → PrngReg) :
    θ_run defs (onTc (τ := τ) (main (F := F))) ⟨m, fun _ => 0, ρ⟩ fun r =>
      (∀ c : Dev nD,
        r.2.mem ((c : Thread nD τ).loc main_arg0) = m ((c : Thread nD τ).loc main_arg0)
        ∧ r.2.mem ((c : Thread nD τ).loc main_arg1) = m ((c : Thread nD τ).loc main_arg1))
      ∧ r.2.sem = fun _ => 0 :=
  (θ_run defs _ _).mono
    (fun _ h => ⟨fun c => ⟨(h.1 c (0 : Fin 3)).trans (final_x m ρ c), (h.1 c (1 : Fin 3)).trans (final_w m ρ c)⟩, h.2⟩)
    (run_main m ρ)

set_option maxRecDepth 100000 in
/-- At the bits the two programs' kernel tables are equal. -/
theorem defs0_eq : Cert.Kernel.defs₀ (F := Bits) = Cert.KernelIdeal.defs₀ (F := Bits) := by
  funext pr l a
  cases pr with
  | tc =>
    match l, a with
    | 0, (t, s) => rfl
  | scScalar _ => rfl
  | scVector _ _ => rfl

set_option maxRecDepth 100000 in
/-- So are their whole body tables. -/
theorem defs_eq : Cert.Kernel.defs (F := Bits) = Cert.KernelIdeal.defs (F := Bits) :=
  congrArg (Pipeline.defs Cert.KernelIdeal.pcfgs) defs0_eq

end Cert.Gather
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import proofs.«01_k».proof.Proof.Frames
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem Cert.Gather

/-- The kernel read over the extended reals terminates with its arguments unchanged and every semaphore at zero. -/
theorem frame_ideal : Cert.quiescent_KernelIdeal := fun m ρ _ => frame_any m ρ

/-- So does the kernel at its bits: the program is the same text. -/
theorem frame_bits : Cert.quiescent_Kernel := fun m ρ _ =>
  Eq.mpr (congrArg (fun D => θ_run D (onTc (τ := Cert.Kernel.τ) (Cert.Kernel.main (F := Bits))) ⟨m, fun _ => 0, ρ⟩ _) defs_eq)
    (frame_any (F := Bits) m ρ)

/-- The reference terminates with its arguments unchanged; it has no semaphores. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run m ρ)

/-- On every device the kernel's result is that device's columns of the reference's result. -/
theorem value : Cert.algebraic_KernelIdeal_ReferenceIdeal := fun m ρ m' ρ' _ hin =>
  ⟨_, (θ_run Cert.KernelIdeal.defs _ _).mono
      (fun _ h c => ⟨(h.1 c (2 : Fin 3)).trans ((final_out m ρ c).trans (out_eq m ρ c _ _ (fun d => (hin d).1) (hin c).2)),
        (h.1 c (0 : Fin 3)).trans (final_x m ρ c), (h.1 c (1 : Fin 3)).trans (final_w m ρ c)⟩)
      (run_main m ρ),
    (θ_run Cert.ReferenceIdeal.defs _ _).mono (fun _ h => h 0) (Cert.ReferenceIdeal.Value.run m' ρ')⟩

/-- Every claim of the certificate. -/
theorem claim : Cert.Claim :=
  ⟨Cert.Kernel.Gen.facts, Cert.KernelIdeal.Gen.facts, Cert.ReferenceIdeal.Gen.facts,
    frame_bits, frame_ideal, frame_reference, trivial, value⟩

end Cert.Proof

end
